-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S14x200x8x32 : Shape := ⟨4, ![14, 200, 8, 32]⟩
abbrev S14x16384x8x32 : Shape := ⟨4, ![14, 16384, 8, 32]⟩
abbrev S14x8 : Shape := ⟨2, ![14, 8]⟩
abbrev S14x200x512 : Shape := ⟨3, ![14, 200, 512]⟩
abbrev S14x8x32x200 : Shape := ⟨4, ![14, 8, 32, 200]⟩
abbrev S14x256x200 : Shape := ⟨3, ![14, 256, 200]⟩
abbrev S14x8x32x16384 : Shape := ⟨4, ![14, 8, 32, 16384]⟩
abbrev S14x256x16384 : Shape := ⟨3, ![14, 256, 16384]⟩
abbrev S_ : Shape := ⟨0, ![]⟩
abbrev S14x200x256 : Shape := ⟨3, ![14, 200, 256]⟩
abbrev S1x256x200 : Shape := ⟨3, ![1, 256, 200]⟩
abbrev S1x256x16384 : Shape := ⟨3, ![1, 256, 16384]⟩
abbrev S1x200x512 : Shape := ⟨3, ![1, 200, 512]⟩
abbrev S1x200x256 : Shape := ⟨3, ![1, 200, 256]⟩
abbrev S8x200x32 : Shape := ⟨3, ![8, 200, 32]⟩
abbrev S200x512 : Shape := ⟨2, ![200, 512]⟩
abbrev S8x200x128 : Shape := ⟨3, ![8, 200, 128]⟩
abbrev S256x200 : Shape := ⟨2, ![256, 200]⟩
abbrev S200x256 : Shape := ⟨2, ![200, 256]⟩
abbrev S200x32 : Shape := ⟨2, ![200, 32]⟩
abbrev S1x200x32 : Shape := ⟨3, ![1, 200, 32]⟩
abbrev S200 : Shape := ⟨1, ![200]⟩
abbrev S200x1 : Shape := ⟨2, ![200, 1]⟩
abbrev S200x128 : Shape := ⟨2, ![200, 128]⟩
abbrev S200x128x1 : Shape := ⟨3, ![200, 128, 1]⟩
abbrev S1x32x512 : Shape := ⟨3, ![1, 32, 512]⟩
abbrev S32x512 : Shape := ⟨2, ![32, 512]⟩
abbrev S1x1 : Shape := ⟨2, ![1, 1]⟩
abbrev S1x200x128 : Shape := ⟨3, ![1, 200, 128]⟩

abbrev nBuf : Space → Nat
  | .hbm => 16
  | .vmem => 16
  | .smem => 2
  | _ => 0

abbrev bufTy : (tb : Table) → Fin (tcTables nBuf tb) → BufTy
  | .hbm, ⟨0, _⟩ => ⟨S14x200x8x32, .bf16⟩
  | .hbm, ⟨1, _⟩ => ⟨S14x16384x8x32, .fp8e4m3⟩
  | .hbm, ⟨2, _⟩ => ⟨S14x8, .f32⟩
  | .hbm, ⟨3, _⟩ => ⟨S14x16384x8x32, .fp8e4m3⟩
  | .hbm, ⟨4, _⟩ => ⟨S14x8, .f32⟩
  | .hbm, ⟨5, _⟩ => ⟨S14x200x512, .i32⟩
  | .hbm, ⟨6, _⟩ => ⟨S14x8x32x200, .bf16⟩
  | .hbm, ⟨7, _⟩ => ⟨S14x256x200, .bf16⟩
  | .hbm, ⟨8, _⟩ => ⟨S14x8x32x16384, .fp8e4m3⟩
  | .hbm, ⟨9, _⟩ => ⟨S14x256x16384, .fp8e4m3⟩
  | .hbm, ⟨10, _⟩ => ⟨S14x8x32x16384, .fp8e4m3⟩
  | .hbm, ⟨11, _⟩ => ⟨S14x256x16384, .fp8e4m3⟩
  | .hbm, ⟨12, _⟩ => ⟨S_, .f32⟩
  | .hbm, ⟨13, _⟩ => ⟨S14x8, .f32⟩
  | .hbm, ⟨14, _⟩ => ⟨S14x8, .f32⟩
  | .hbm, ⟨15, _⟩ => ⟨S14x200x256, .bf16⟩
  | .local _ .vmem, ⟨0, _⟩ => ⟨S1x256x200, .bf16⟩
  | .local _ .vmem, ⟨1, _⟩ => ⟨S1x256x200, .bf16⟩
  | .local _ .vmem, ⟨2, _⟩ => ⟨S1x256x16384, .fp8e4m3⟩
  | .local _ .vmem, ⟨3, _⟩ => ⟨S1x256x16384, .fp8e4m3⟩
  | .local _ .vmem, ⟨4, _⟩ => ⟨S1x256x16384, .fp8e4m3⟩
  | .local _ .vmem, ⟨5, _⟩ => ⟨S1x256x16384, .fp8e4m3⟩
  | .local _ .vmem, ⟨6, _⟩ => ⟨S1x200x512, .i32⟩
  | .local _ .vmem, ⟨7, _⟩ => ⟨S1x200x512, .i32⟩
  | .local _ .vmem, ⟨8, _⟩ => ⟨S1x200x256, .bf16⟩
  | .local _ .vmem, ⟨9, _⟩ => ⟨S1x200x256, .bf16⟩
  | .local _ .vmem, ⟨10, _⟩ => ⟨S8x200x32, .bf16⟩
  | .local _ .vmem, ⟨11, _⟩ => ⟨S200x512, .i32⟩
  | .local _ .vmem, ⟨12, _⟩ => ⟨S200x512, .i32⟩
  | .local _ .vmem, ⟨13, _⟩ => ⟨S8x200x128, .f32⟩
  | .local _ .vmem, ⟨14, _⟩ => ⟨S8x200x128, .f32⟩
  | .local _ .vmem, ⟨15, _⟩ => ⟨S8x200x32, .f32⟩
  | .local _ .smem, ⟨0, _⟩ => ⟨S14x8, .f32⟩
  | .local _ .smem, ⟨1, _⟩ => ⟨S14x8, .f32⟩
  | _, _ => ⟨S14x200x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_39 : BitVec 32 := 0#32
  let c32_i32 : BitVec 32 := 32#32
  let v79 : BitVec 32 := Scalar.addi c0_i32_39 c32_i32
  let c1_i32_40 : BitVec 32 := 1#32
  ⟨c0_i32_39, v79, c1_i32_40⟩
def k0_mult1 (k0_t1 : Fin k0_t1_loop.trips) : BitVec 32 :=
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  v184
def k0_mult2 (k0_t1 : Fin k0_t1_loop.trips) : BitVec 32 :=
  let c0_i32_39 : BitVec 32 := 0#32
  let c1_i32_40 : BitVec 32 := 1#32
  let arg14 : BitVec 32 := Scf.iv c0_i32_39 c1_i32_40 k0_t1
  let c16_i32 : BitVec 32 := 16#32
  let v186 : BitVec 32 := Scalar.muli arg14 c16_i32
  let c0_i32_115 : BitVec 32 := 0#32
  let v188 : BitVec 1 := Scalar.cmpi .sgt v186 c0_i32_115
  let v189 : BitVec 32 := Scalar.extui v188
  let c0_i32_116 : BitVec 32 := 0#32
  let v190 : BitVec 1 := Scalar.cmpi .slt v186 c0_i32_116
  let v191 : BitVec 32 := Scalar.extui v190
  let v192 : BitVec 32 := Scalar.subi v189 v191
  let c128_i32 : BitVec 32 := 128#32
  let c0_i32_117 : BitVec 32 := 0#32
  let v193 : BitVec 1 := Scalar.cmpi .sgt c128_i32 c0_i32_117
  let v194 : BitVec 32 := Scalar.extui v193
  let c0_i32_118 : BitVec 32 := 0#32
  let v195 : BitVec 1 := Scalar.cmpi .slt c128_i32 c0_i32_118
  let v196 : BitVec 32 := Scalar.extui v195
  let v197 : BitVec 32 := Scalar.subi v194 v196
  let v198 : BitVec 1 := Scalar.cmpi .ne v192 v197
  let v199 : BitVec 32 := Scalar.remsi v186 c128_i32
  let c0_i32_119 : BitVec 32 := 0#32
  let v200 : BitVec 1 := Scalar.cmpi .ne v199 c0_i32_119
  let v201 : BitVec 1 := Scalar.andi v198 v200
  let v187 : BitVec 32 := Scalar.divsi v186 c128_i32
  let c1_i32_120 : BitVec 32 := 1#32
  let v202 : BitVec 32 := Scalar.subi v187 c1_i32_120
  let v203 : BitVec 32 := Scalar.select v201 v202 v187
  let c128_i32_121 : BitVec 32 := 128#32
  let v204 : BitVec 32 := Scalar.muli v203 c128_i32_121
  v204
def k0_off1 (k0_t1 : Fin k0_t1_loop.trips) : Fin 2 → Nat :=
  let c0_122 : Index := 0#32
  let c0_i32_39 : BitVec 32 := 0#32
  let c1_i32_40 : BitVec 32 := 1#32
  let arg14 : BitVec 32 := Scf.iv c0_i32_39 c1_i32_40 k0_t1
  let c16_i32 : BitVec 32 := 16#32
  let v186 : BitVec 32 := Scalar.muli arg14 c16_i32
  let c0_i32_115 : BitVec 32 := 0#32
  let v188 : BitVec 1 := Scalar.cmpi .sgt v186 c0_i32_115
  let v189 : BitVec 32 := Scalar.extui v188
  let c0_i32_116 : BitVec 32 := 0#32
  let v190 : BitVec 1 := Scalar.cmpi .slt v186 c0_i32_116
  let v191 : BitVec 32 := Scalar.extui v190
  let v192 : BitVec 32 := Scalar.subi v189 v191
  let c128_i32 : BitVec 32 := 128#32
  let c0_i32_117 : BitVec 32 := 0#32
  let v193 : BitVec 1 := Scalar.cmpi .sgt c128_i32 c0_i32_117
  let v194 : BitVec 32 := Scalar.extui v193
  let c0_i32_118 : BitVec 32 := 0#32
  let v195 : BitVec 1 := Scalar.cmpi .slt c128_i32 c0_i32_118
  let v196 : BitVec 32 := Scalar.extui v195
  let v197 : BitVec 32 := Scalar.subi v194 v196
  let v198 : BitVec 1 := Scalar.cmpi .ne v192 v197
  let v199 : BitVec 32 := Scalar.remsi v186 c128_i32
  let c0_i32_119 : BitVec 32 := 0#32
  let v200 : BitVec 1 := Scalar.cmpi .ne v199 c0_i32_119
  let v201 : BitVec 1 := Scalar.andi v198 v200
  let v187 : BitVec 32 := Scalar.divsi v186 c128_i32
  let c1_i32_120 : BitVec 32 := 1#32
  let v202 : BitVec 32 := Scalar.subi v187 c1_i32_120
  let v203 : BitVec 32 := Scalar.select v201 v202 v187
  let c128_i32_121 : BitVec 32 := 128#32
  let v204 : BitVec 32 := Scalar.muli v203 c128_i32_121
  let v205 : BitVec 32 := v204
  let v206 : Index := Scalar.indexCast v205
  ![0, v206.toNat]
def k0_off2 (k0_t1 : Fin k0_t1_loop.trips) : Fin 3 → Nat :=
  let c0_144 : Index := 0#32
  let c0_145 : Index := 0#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v284 : Index := Scalar.indexCast v185
  ![0, 0, v284.toNat]
def k0_off3 (i : grid0.Coords) : Fin 2 → Nat :=
  let arg0 : BitVec 32 := BitVec.ofNat 32 (i 0).val
  let v294 : Index := Scalar.indexCast arg0
  let c0_152 : Index := 0#32
  ![v294.toNat, 0]
def k0_off4 (k0_t1 : Fin k0_t1_loop.trips) : Fin 3 → Nat :=
  let c0_183 : Index := 0#32
  let c32_184 : Index := 32#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v344 : Index := Scalar.indexCast v185
  ![0, 32, v344.toNat]
def k0_off5 (i : grid0.Coords) : Fin 2 → Nat :=
  let arg0 : BitVec 32 := BitVec.ofNat 32 (i 0).val
  let v354 : Index := Scalar.indexCast arg0
  let c1_191 : Index := 1#32
  ![v354.toNat, 1]
def k0_off6 (k0_t1 : Fin k0_t1_loop.trips) : Fin 3 → Nat :=
  let c0_222 : Index := 0#32
  let c64_223 : Index := 64#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v404 : Index := Scalar.indexCast v185
  ![0, 64, v404.toNat]
def k0_off7 (i : grid0.Coords) : Fin 2 → Nat :=
  let arg0 : BitVec 32 := BitVec.ofNat 32 (i 0).val
  let v414 : Index := Scalar.indexCast arg0
  let c2_230 : Index := 2#32
  ![v414.toNat, 2]
def k0_off8 (k0_t1 : Fin k0_t1_loop.trips) : Fin 3 → Nat :=
  let c0_261 : Index := 0#32
  let c96_262 : Index := 96#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v464 : Index := Scalar.indexCast v185
  ![0, 96, v464.toNat]
def k0_off9 (i : grid0.Coords) : Fin 2 → Nat :=
  let arg0 : BitVec 32 := BitVec.ofNat 32 (i 0).val
  let v474 : Index := Scalar.indexCast arg0
  let c3_269 : Index := 3#32
  ![v474.toNat, 3]
def k0_off10 (k0_t1 : Fin k0_t1_loop.trips) : Fin 3 → Nat :=
  let c0_300 : Index := 0#32
  let c128_301 : Index := 128#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v524 : Index := Scalar.indexCast v185
  ![0, 128, v524.toNat]
def k0_off11 (i : grid0.Coords) : Fin 2 → Nat :=
  let arg0 : BitVec 32 := BitVec.ofNat 32 (i 0).val
  let v534 : Index := Scalar.indexCast arg0
  let c4_308 : Index := 4#32
  ![v534.toNat, 4]
def k0_off12 (k0_t1 : Fin k0_t1_loop.trips) : Fin 3 → Nat :=
  let c0_339 : Index := 0#32
  let c160_340 : Index := 160#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v584 : Index := Scalar.indexCast v185
  ![0, 160, v584.toNat]
def k0_off13 (i : grid0.Coords) : Fin 2 → Nat :=
  let arg0 : BitVec 32 := BitVec.ofNat 32 (i 0).val
  let v594 : Index := Scalar.indexCast arg0
  let c5_347 : Index := 5#32
  ![v594.toNat, 5]
def k0_off14 (k0_t1 : Fin k0_t1_loop.trips) : Fin 3 → Nat :=
  let c0_378 : Index := 0#32
  let c192_379 : Index := 192#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v644 : Index := Scalar.indexCast v185
  ![0, 192, v644.toNat]
def k0_off15 (i : grid0.Coords) : Fin 2 → Nat :=
  let arg0 : BitVec 32 := BitVec.ofNat 32 (i 0).val
  let v654 : Index := Scalar.indexCast arg0
  let c6_386 : Index := 6#32
  ![v654.toNat, 6]
def k0_off16 (k0_t1 : Fin k0_t1_loop.trips) : Fin 3 → Nat :=
  let c0_417 : Index := 0#32
  let c224_418 : Index := 224#32
  let c0_i32_39 : BitVec 32 := 0#32
  let c1_i32_40 : BitVec 32 := 1#32
  let arg14 : BitVec 32 := Scf.iv c0_i32_39 c1_i32_40 k0_t1
  let c512_i32 : BitVec 32 := 512#32
  let v184 : BitVec 32 := Scalar.muli arg14 c512_i32
  let v185 : BitVec 32 := v184
  let v704 : Index := Scalar.indexCast v185
  ![0, 224, v704.toNat]
def k0_off17 (i : grid0.Coords) : Fin 2 → Nat :=
  let arg0 : BitVec 32 := BitVec.ofNat 32 (i 0).val
  let v714 : Index := Scalar.indexCast arg0
  let c7_425 : Index := 7#32
  ![v714.toNat, 7]
def k0_off18 (i : grid0.Coords) : Fin 2 → Nat :=
  let arg0 : BitVec 32 := BitVec.ofNat 32 (i 0).val
  let v85 : Index := Scalar.indexCast arg0
  let c0_48 : Index := 0#32
  ![v85.toNat, 0]
def k0_off19 (i : grid0.Coords) : Fin 2 → Nat :=
  let arg0 : BitVec 32 := BitVec.ofNat 32 (i 0).val
  let v98 : Index := Scalar.indexCast arg0
  let c1_58 : Index := 1#32
  ![v98.toNat, 1]
def k0_off20 (i : grid0.Coords) : Fin 2 → Nat :=
  let arg0 : BitVec 32 := BitVec.ofNat 32 (i 0).val
  let v111 : Index := Scalar.indexCast arg0
  let c2_67 : Index := 2#32
  ![v111.toNat, 2]
def k0_off21 (i : grid0.Coords) : Fin 2 → Nat :=
  let arg0 : BitVec 32 := BitVec.ofNat 32 (i 0).val
  let v124 : Index := Scalar.indexCast arg0
  let c3_76 : Index := 3#32
  ![v124.toNat, 3]
def k0_off22 (i : grid0.Coords) : Fin 2 → Nat :=
  let arg0 : BitVec 32 := BitVec.ofNat 32 (i 0).val
  let v137 : Index := Scalar.indexCast arg0
  let c4_85 : Index := 4#32
  ![v137.toNat, 4]
def k0_off23 (i : grid0.Coords) : Fin 2 → Nat :=
  let arg0 : BitVec 32 := BitVec.ofNat 32 (i 0).val
  let v150 : Index := Scalar.indexCast arg0
  let c5_94 : Index := 5#32
  ![v150.toNat, 5]
def k0_off24 (i : grid0.Coords) : Fin 2 → Nat :=
  let arg0 : BitVec 32 := BitVec.ofNat 32 (i 0).val
  let v163 : Index := Scalar.indexCast arg0
  let c6_103 : Index := 6#32
  ![v163.toNat, 6]
def k0_off25 (i : grid0.Coords) : Fin 2 → Nat :=
  let arg0 : BitVec 32 := BitVec.ofNat 32 (i 0).val
  let v176 : Index := Scalar.indexCast arg0
  let c7_112 : Index := 7#32
  ![v176.toNat, 7]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S14x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S14x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x200x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x200x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S14x200x8x32 : Shape := ⟨4, ![14, 200, 8, 32]⟩
abbrev S14x16384x8x32 : Shape := ⟨4, ![14, 16384, 8, 32]⟩
abbrev S14x8 : Shape := ⟨2, ![14, 8]⟩
abbrev S14x200x512 : Shape := ⟨3, ![14, 200, 512]⟩
abbrev S32 : Shape := ⟨1, ![32]⟩
abbrev S14x200x512x1 : Shape := ⟨4, ![14, 200, 512, 1]⟩
abbrev S1x1x1x32 : Shape := ⟨4, ![1, 1, 1, 32]⟩
abbrev S14x200x512x32 : Shape := ⟨4, ![14, 200, 512, 32]⟩
abbrev S_ : Shape := ⟨0, ![]⟩
abbrev S14x200x16384 : Shape := ⟨3, ![14, 200, 16384]⟩
abbrev S14x200 : Shape := ⟨2, ![14, 200]⟩
abbrev S14x200x1 : Shape := ⟨3, ![14, 200, 1]⟩
abbrev S14x8x200x16384 : Shape := ⟨4, ![14, 8, 200, 16384]⟩
abbrev S14x8x1x1 : Shape := ⟨4, ![14, 8, 1, 1]⟩
abbrev S14x1x200x16384 : Shape := ⟨4, ![14, 1, 200, 16384]⟩
abbrev S14x8x200 : Shape := ⟨3, ![14, 8, 200]⟩
abbrev S14x8x200x1 : Shape := ⟨4, ![14, 8, 200, 1]⟩
abbrev S14x8x32x200 : Shape := ⟨4, ![14, 8, 32, 200]⟩
abbrev S14x200x8x1 : Shape := ⟨4, ![14, 200, 8, 1]⟩
abbrev S14x1x8x1 : Shape := ⟨4, ![14, 1, 8, 1]⟩
abbrev S14x200x256 : Shape := ⟨3, ![14, 200, 256]⟩

abbrev nBuf : Space → Nat
  | .hbm => 64
  | .vmem => 4
  | .smem => 0
  | _ => 0

abbrev bufTy : (tb : Table) → Fin (tcTables nBuf tb) → BufTy
  | .hbm, ⟨0, _⟩ => ⟨S14x200x8x32, .bf16⟩
  | .hbm, ⟨1, _⟩ => ⟨S14x16384x8x32, .fp8e4m3⟩
  | .hbm, ⟨2, _⟩ => ⟨S14x8, .f32⟩
  | .hbm, ⟨3, _⟩ => ⟨S14x16384x8x32, .fp8e4m3⟩
  | .hbm, ⟨4, _⟩ => ⟨S14x8, .f32⟩
  | .hbm, ⟨5, _⟩ => ⟨S14x200x512, .i32⟩
  | .hbm, ⟨6, _⟩ => ⟨S14x16384x8x32, .bf16⟩
  | .hbm, ⟨7, _⟩ => ⟨S14x16384x8x32, .bf16⟩
  | .hbm, ⟨8, _⟩ => ⟨S14x200x512, .i32⟩
  | .hbm, ⟨9, _⟩ => ⟨S32, .i32⟩
  | .hbm, ⟨10, _⟩ => ⟨S14x200x512x1, .i32⟩
  | .hbm, ⟨11, _⟩ => ⟨S1x1x1x32, .i32⟩
  | .hbm, ⟨12, _⟩ => ⟨S14x200x512x32, .i32⟩
  | .hbm, ⟨13, _⟩ => ⟨S14x200x512x32, .i32⟩
  | .hbm, ⟨14, _⟩ => ⟨S14x200x512x32, .i32⟩
  | .hbm, ⟨15, _⟩ => ⟨S_, .i32⟩
  | .hbm, ⟨16, _⟩ => ⟨S14x200x512x32, .i32⟩
  | .hbm, ⟨17, _⟩ => ⟨S14x200x512x32, .i32⟩
  | .hbm, ⟨18, _⟩ => ⟨S_, .i32⟩
  | .hbm, ⟨19, _⟩ => ⟨S14x200x512x32, .i32⟩
  | .hbm, ⟨20, _⟩ => ⟨S14x200x512x32, .i1⟩
  | .hbm, ⟨21, _⟩ => ⟨S14x200x512x32, .i1⟩
  | .hbm, ⟨22, _⟩ => ⟨S14x200x16384, .i1⟩
  | .hbm, ⟨23, _⟩ => ⟨S_, .i32⟩
  | .hbm, ⟨24, _⟩ => ⟨S14x200x512, .i32⟩
  | .hbm, ⟨25, _⟩ => ⟨S14x200x512, .i1⟩
  | .hbm, ⟨26, _⟩ => ⟨S_, .i1⟩
  | .hbm, ⟨27, _⟩ => ⟨S14x200, .i1⟩
  | .hbm, ⟨28, _⟩ => ⟨S14x200x1, .i1⟩
  | .hbm, ⟨29, _⟩ => ⟨S14x200x16384, .i1⟩
  | .hbm, ⟨30, _⟩ => ⟨S14x200x16384, .i1⟩
  | .hbm, ⟨31, _⟩ => ⟨S14x8x200x16384, .f32⟩
  | .hbm, ⟨32, _⟩ => ⟨S_, .f32⟩
  | .hbm, ⟨33, _⟩ => ⟨S14x8, .f32⟩
  | .hbm, ⟨34, _⟩ => ⟨S14x8, .f32⟩
  | .hbm, ⟨35, _⟩ => ⟨S14x8x1x1, .f32⟩
  | .hbm, ⟨36, _⟩ => ⟨S14x8x200x16384, .f32⟩
  | .hbm, ⟨37, _⟩ => ⟨S14x8x200x16384, .f32⟩
  | .hbm, ⟨38, _⟩ => ⟨S14x1x200x16384, .i1⟩
  | .hbm, ⟨39, _⟩ => ⟨S_, .f32⟩
  | .hbm, ⟨40, _⟩ => ⟨S_, .f32⟩
  | .hbm, ⟨41, _⟩ => ⟨S14x8x200x16384, .i1⟩
  | .hbm, ⟨42, _⟩ => ⟨S14x8x200x16384, .f32⟩
  | .hbm, ⟨43, _⟩ => ⟨S14x8x200x16384, .f32⟩
  | .hbm, ⟨44, _⟩ => ⟨S_, .f32⟩
  | .hbm, ⟨45, _⟩ => ⟨S14x8x200, .f32⟩
  | .hbm, ⟨46, _⟩ => ⟨S14x8x200x1, .f32⟩
  | .hbm, ⟨47, _⟩ => ⟨S14x8x200x16384, .f32⟩
  | .hbm, ⟨48, _⟩ => ⟨S14x8x200x16384, .f32⟩
  | .hbm, ⟨49, _⟩ => ⟨S14x8x200x16384, .f32⟩
  | .hbm, ⟨50, _⟩ => ⟨S14x8x200x16384, .bf16⟩
  | .hbm, ⟨51, _⟩ => ⟨S14x8x32x200, .f32⟩
  | .hbm, ⟨52, _⟩ => ⟨S14x200x8x32, .f32⟩
  | .hbm, ⟨53, _⟩ => ⟨S_, .f32⟩
  | .hbm, ⟨54, _⟩ => ⟨S14x8x200, .f32⟩
  | .hbm, ⟨55, _⟩ => ⟨S14x8x200x1, .f32⟩
  | .hbm, ⟨56, _⟩ => ⟨S14x200x8x1, .f32⟩
  | .hbm, ⟨57, _⟩ => ⟨S14x200x8x32, .f32⟩
  | .hbm, ⟨58, _⟩ => ⟨S14x200x8x32, .f32⟩
  | .hbm, ⟨59, _⟩ => ⟨S14x1x8x1, .f32⟩
  | .hbm, ⟨60, _⟩ => ⟨S14x200x8x32, .f32⟩
  | .hbm, ⟨61, _⟩ => ⟨S14x200x8x32, .f32⟩
  | .hbm, ⟨62, _⟩ => ⟨S14x200x256, .f32⟩
  | .hbm, ⟨63, _⟩ => ⟨S14x200x256, .bf16⟩
  | .local _ .vmem, ⟨0, _⟩ => ⟨S14x16384x8x32, .fp8e4m3⟩
  | .local _ .vmem, ⟨1, _⟩ => ⟨S14x16384x8x32, .fp8e4m3⟩
  | .local _ .vmem, ⟨2, _⟩ => ⟨S14x16384x8x32, .bf16⟩
  | .local _ .vmem, ⟨3, _⟩ => ⟨S14x16384x8x32, .bf16⟩
  | _, _ => ⟨S14x200x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S14x16384x8x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14x16384x8x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x16384x8x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14x16384x8x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Step.lean ====
module

public import proofs.«01_k».proof.Proof.Gen.KernelIdeal.Loops
public import proofs.«01_k».proof.Proof.Gen.KernelIdeal.Frame

@[expose] public section
set_option maxRecDepth 16384
noncomputable section
namespace Cert.KernelIdeal.Step
open Idealize.ShloMosaic Idealize.ShloMosaic.TcCoe Idealize.ShloMosaic.Tactic
open Cert.KernelIdeal.Gen
variable {F : FTy → Type} [FloatOps F] [Named F]

/-- Where head `h`'s rows of tile `k` begin in a block of keys or values. -/
def offK (k : Fin k0_t1_loop.trips) : Fin 8 → Fin 3 → ℕ
  | 0 => k0_off2 k | 1 => k0_off4 k | 2 => k0_off6 k | 3 => k0_off8 k
  | 4 => k0_off10 k | 5 => k0_off12 k | 6 => k0_off14 k | 7 => k0_off16 k

/-- Where head `h`'s key scale lies at grid point `i`. -/
def offS (i : grid0.Coords) : Fin 8 → Fin 2 → ℕ
  | 0 => k0_off3 i | 1 => k0_off5 i | 2 => k0_off7 i | 3 => k0_off9 i
  | 4 => k0_off11 i | 5 => k0_off13 i | 6 => k0_off15 i | 7 => k0_off17 i

/-- Head `h`'s rows of tile `k` begin at row `32 h` and pixel `512 k`. -/
theorem offK_eq (k : Fin k0_t1_loop.trips) (h : Fin 8) : offK k h = ![0, 32 * h.val, 512 * k.val] := by
  revert k h; decide +kernel

/-- Head `h`'s key scale lies at the grid point's image and at `h`. -/
theorem offS_eq (i : grid0.Coords) (h : Fin 8) : offS i h = ![(i 0).val, h.val] := by
  fin_cases h
  exacts [k0_off3_eq i, k0_off5_eq i, k0_off7_eq i, k0_off9_eq i, k0_off11_eq i, k0_off13_eq i, k0_off15_eq i, k0_off17_eq i]

/-- Every tile's rows lie in the block. -/
theorem offK_inb (k : Fin k0_t1_loop.trips) (h : Fin 8) (a : Fin 3) : offK k h a + S1x32x512.size a ≤ S1x256x16384.size a := by
  revert k h a; decide +kernel

/-- Every key scale lies in its array. -/
theorem offS_inb (i : grid0.Coords) (h : Fin 8) (a : Fin 2) : offS i h a + S1x1.size a ≤ S14x8.size a := by
  fin_cases h
  exacts [k0_off3_inb i a, k0_off5_inb i a, k0_off7_inb i a, k0_off9_inb i a, k0_off11_inb i a, k0_off13_inb i a, k0_off15_inb i a, k0_off17_inb i a]

/-- Head `h`'s rows of the running maxima and sums. -/
def rM (h : Fin 8) : Rect S8x200x128 := Rect.unit ![h.val, 0, 0] S1x200x128.size (by revert h; decide)
/-- Head `h`'s rows of the accumulator and of the queries. -/
def rA (h : Fin 8) : Rect S8x200x32 := Rect.unit ![h.val, 0, 0] S1x200x32.size (by revert h; decide)

/-- Head `h`'s rows of tile `k` in a block of keys or values. -/
def rK (k : Fin k0_t1_loop.trips) (h : Fin 8) : Rect S1x256x16384 := Rect.unit (offK k h) S1x32x512.size (offK_inb k h)
/-- The place of head `h`'s scale at grid point `i`. -/
def rS (i : grid0.Coords) (h : Fin 8) : Rect S14x8 := Rect.unit (offS i h) S1x1.size (offS_inb i h)

/-- One head's masked scores over one tile. -/
def scores (kt : Vec F S1x32x512 .fp8e4m3) (q : Vec F S1x200x32 .bf16) (cs : Elt F .f32) (mask : Vec F S200x512 .i32) : FVec F S200x512 .f32 :=
  k0_pay10 kt q cs mask
/-- One head's running maxima after one tile. -/
def newM (sc : FVec F S200x512 .f32) (m : Vec F S1x200x128 .f32) : FVec F S1x200x128 .f32 := k0_pay15 sc m
/-- One head's running sums after one tile. -/
def newL (sc : FVec F S200x512 .f32) (mask : Vec F S200x512 .i32) (m l : Vec F S1x200x128 .f32) : FVec F S1x200x128 .f32 := k0_pay16 sc m mask l
/-- One head's running weighted values after one tile. -/
def newA (sc : FVec F S200x512 .f32) (mask : Vec F S200x512 .i32) (vt : Vec F S1x32x512 .fp8e4m3) (m : Vec F S1x200x128 .f32) (a : Vec F S1x200x32 .f32) : FVec F S1x200x32 .f32 :=
  k0_pay18 (k0_pay17 (k0_pay9 vt) sc m mask a)

section
variable (𝒱 : Variants) (c : Dev nD) (bd : Option 𝒱.V) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole) (arg0 : BitVec 32) (cst_30 : F .f32) (v74 : IVec S200x128 32) (X_arg1 : BufTy.Contents (Elt F) arg1.view.ty) (X_arg4 : BufTy.Contents (Elt F) arg4.view.ty) (X_arg5 : BufTy.Contents (Elt F) arg5.view.ty) (X_arg8 : BufTy.Contents (Elt F) arg8.view.ty) (X_arg9 : BufTy.Contents (Elt F) arg9.view.ty) (k : Fin k0_t1_loop.trips)

/-- The tile's mask, as the program reads it back from its buffer. -/
def maskRaw : Vec F S200x512 .i32 := trip_k0_t1.sl.v299 arg9 arg10 v74 X_arg9 k

/-- Head `h`'s masked scores of a tile, from what the program reads from its buffers. -/
def scoresRaw (h : Fin 8) : FVec F S200x512 .f32 :=
  scores (View.readAt (Elt F) arg4.view (rK k h).toLoadRect X_arg4)
    (View.readAt (Elt F) arg8.view (rA h).toLoadRect X_arg8)
    (View.readAt (Elt F) arg1.view (rS i h).toLoadRect X_arg1 (Shape.Idx.first (show 0 < S1x1.numel by decide)))
    (trip_k0_t1.sl.v299 arg9 arg10 v74 X_arg9 k)

variable (f10 : BufTy.Contents (Elt F) arg10.view.ty) (f11 : BufTy.Contents (Elt F) arg11.view.ty) (f12 : BufTy.Contents (Elt F) arg12.view.ty) (f13 : BufTy.Contents (Elt F) arg13.view.ty)

/-- What the tile's turn stores in head `h`'s rows of the accumulators. -/
def pieceA (h : Fin 8) : View.Piece (Elt F) S8x200x32 .f32 := ⟨rA h, newA (scoresRaw i arg1 arg4 arg8 arg9 arg10 v74 X_arg1 X_arg4 X_arg8 X_arg9 k h)
   (trip_k0_t1.sl.v299 arg9 arg10 v74 X_arg9 k)
   (View.readAt (Elt F) arg5.view (rK k h).toLoadRect X_arg5)
   (View.readAt (Elt F) arg11.view (rM h).toLoadRect f11)
   (View.readAt (Elt F) arg13.view (rA h).toLoadRect f13)⟩

/-- What the tile's turn stores in head `h`'s rows of the running maxima. -/
def pieceM (h : Fin 8) : View.Piece (Elt F) S8x200x128 .f32 := ⟨rM h, newM (scoresRaw i arg1 arg4 arg8 arg9 arg10 v74 X_arg1 X_arg4 X_arg8 X_arg9 k h)
   (View.readAt (Elt F) arg11.view (rM h).toLoadRect f11)⟩

/-- What the tile's turn stores in head `h`'s rows of the running sums. -/
def pieceL (h : Fin 8) : View.Piece (Elt F) S8x200x128 .f32 := ⟨rM h, newL (scoresRaw i arg1 arg4 arg8 arg9 arg10 v74 X_arg1 X_arg4 X_arg8 X_arg9 k h)
   (trip_k0_t1.sl.v299 arg9 arg10 v74 X_arg9 k)
   (View.readAt (Elt F) arg11.view (rM h).toLoadRect f11)
   (View.readAt (Elt F) arg12.view (rM h).toLoadRect f12)⟩

/-- A turn of the loop leaves the running maxima with the eight heads' stores, the last first. -/
theorem tripM : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.1 f10 f11 f12 f13 = ([7, 6, 5, 4, 3, 2, 1, 0] : List (Fin 8)).map (pieceM i arg1 arg4 arg8 arg9 arg10 arg11 v74 X_arg1 X_arg4 X_arg8 X_arg9 k f11) := by
  unfold trip_k0_t1
  rfl

/-- A turn of the loop leaves the running sums with the eight heads' stores, the last first. -/
theorem tripL : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.2.1 f10 f11 f12 f13 = ([7, 6, 5, 4, 3, 2, 1, 0] : List (Fin 8)).map (pieceL i arg1 arg4 arg8 arg9 arg10 arg11 arg12 v74 X_arg1 X_arg4 X_arg8 X_arg9 k f11 f12) := by
  unfold trip_k0_t1
  rfl

/-- A turn of the loop leaves the accumulators with the eight heads' stores, the last first. -/
theorem tripA : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.2.2.1 f10 f11 f12 f13 = ([7, 6, 5, 4, 3, 2, 1, 0] : List (Fin 8)).map (pieceA i arg1 arg4 arg5 arg8 arg9 arg10 arg11 arg13 v74 X_arg1 X_arg4 X_arg5 X_arg8 X_arg9 k f11 f13) := by
  unfold trip_k0_t1
  rfl
end
end Cert.KernelIdeal.Step
end
-- ==== Proof.State.lean ====
module

public import proofs.«01_k».proof.Proof.Step

@[expose] public section
set_option maxRecDepth 16384
noncomputable section
namespace Cert.KernelIdeal.Step
open Idealize.ShloMosaic Idealize.ShloMosaic.TcCoe Idealize.ShloMosaic.Tactic
open Cert.KernelIdeal.Gen
variable {F : FTy → Type} [FloatOps F] [Named F]

/-- The loop has 32 turns. -/
theorem trips_eq : k0_t1_loop.trips = 32 := by decide +kernel

/-- The element of an array of eight heads that a head's row and lane name. -/
def inHead {n : ℕ} (y : (⟨3, ![8, 200, n]⟩ : Shape).Idx) : (⟨3, ![1, 200, n]⟩ : Shape).Idx :=
  Fin.cons (0 : Fin 1) (Fin.cons (y 1) (Fin.cons (y 2) (fun z => z.elim0)))

/-- Eight stores, one to each head's rows, leave in head `h`'s rows what was stored there. -/
theorem readAt_headsM {e : EltTy} {sp : Space} (v : View sig .tc sp S8x200x128 e) (f : BufTy.Contents (Elt F) v.ty) (P : Fin 8 → S1x200x128.Idx → Elt F e) (h : Fin 8) :
    v.readAt (Elt F) (rM h).toLoadRect (v.writes (Elt F) f (([7, 6, 5, 4, 3, 2, 1, 0] : List (Fin 8)).map fun h => (⟨rM h, P h⟩ : View.Piece (Elt F) S8x200x128 e))) = P h := by
  have hG : ∀ (h : Fin 8) (x : S1x200x128.Idx), P h x = P (((rM h).emb x) 0) (inHead ((rM h).emb x)) := by
    intro h x
    have e0 : ((rM h).emb x) 0 = h := by
      apply Fin.ext
      have : (x 0).val < 1 := (x 0).isLt
      show h.val + 1 * (x 0).val = h.val
      omega
    have e1 : (inHead ((rM h).emb x) : S1x200x128.Idx) = x := by
      funext a
      apply Fin.ext
      have : (x 0).val < 1 := (x 0).isLt
      fin_cases a
      · show 0 = (x 0).val
        omega
      · show 0 + 1 * (x 1).val = (x 1).val
        omega
      · show 0 + 1 * (x 2).val = (x 2).val
        omega
    rw [e0, e1]
  funext x
  rw [View.readAt_eq_ld]
  refine (View.read_writes_apply_of_pieces (Val := Elt F) v f (G := fun y => P (y 0) (inHead y)) _ ?_ ((rM h).emb x) ?_).trans (hG h x).symm
  · intro p hp x
    obtain ⟨h', _, rfl⟩ := List.mem_map.1 hp
    exact hG h' x
  · refine ⟨⟨rM h, P h⟩, List.mem_map.2 ⟨h, ?_, rfl⟩, by rw [← Rect.map_emb_univ]; exact Finset.mem_map_of_mem _ (Finset.mem_univ x)⟩
    fin_cases h <;> decide

/-- Eight stores, one to each head's rows, leave in head `h`'s rows what was stored there. -/
theorem readAt_headsA {e : EltTy} {sp : Space} (v : View sig .tc sp S8x200x32 e) (f : BufTy.Contents (Elt F) v.ty) (P : Fin 8 → S1x200x32.Idx → Elt F e) (h : Fin 8) :
    v.readAt (Elt F) (rA h).toLoadRect (v.writes (Elt F) f (([7, 6, 5, 4, 3, 2, 1, 0] : List (Fin 8)).map fun h => (⟨rA h, P h⟩ : View.Piece (Elt F) S8x200x32 e))) = P h := by
  have hG : ∀ (h : Fin 8) (x : S1x200x32.Idx), P h x = P (((rA h).emb x) 0) (inHead ((rA h).emb x)) := by
    intro h x
    have e0 : ((rA h).emb x) 0 = h := by
      apply Fin.ext
      have : (x 0).val < 1 := (x 0).isLt
      show h.val + 1 * (x 0).val = h.val
      omega
    have e1 : (inHead ((rA h).emb x) : S1x200x32.Idx) = x := by
      funext a
      apply Fin.ext
      have : (x 0).val < 1 := (x 0).isLt
      fin_cases a
      · show 0 = (x 0).val
        omega
      · show 0 + 1 * (x 1).val = (x 1).val
        omega
      · show 0 + 1 * (x 2).val = (x 2).val
        omega
    rw [e0, e1]
  funext x
  rw [View.readAt_eq_ld]
  refine (View.read_writes_apply_of_pieces (Val := Elt F) v f (G := fun y => P (y 0) (inHead y)) _ ?_ ((rA h).emb x) ?_).trans (hG h x).symm
  · intro p hp x
    obtain ⟨h', _, rfl⟩ := List.mem_map.1 hp
    exact hG h' x
  · refine ⟨⟨rA h, P h⟩, List.mem_map.2 ⟨h, ?_, rfl⟩, by rw [← Rect.map_emb_univ]; exact Finset.mem_map_of_mem _ (Finset.mem_univ x)⟩
    fin_cases h <;> decide

/-- The 128 columns of mask words that tile `k` reads. -/
def rW (k : Fin k0_t1_loop.trips) : Rect S200x512 := Rect.unit (k0_off1 k) S200x128.size (k0_off1_inb k)

/-- The number of mask words before tile `k`, as the kernel computes it. -/
def wordBase (k : Fin k0_t1_loop.trips) : BitVec 32 := Scalar.muli (Scf.iv 0#32 1#32 k) 16#32

/-- The four stores that fill tile `k`'s mask: 128 columns each. -/
def maskPieces (v74 : IVec S200x128 32) (w : Vec F S200x512 .i32) (k : Fin k0_t1_loop.trips) : List (View.Piece (Elt F) S200x512 .i32) :=
  [⟨Rect.unit ![0, 384] S200x128.size inb_S200x512_S200x128_0_384, k0_pay8 (F := F) k0_pay108 (wordBase k) (View.ld w (rW k)) (k0_pay7 v74)⟩,
   ⟨Rect.unit ![0, 256] S200x128.size inb_S200x512_S200x128_0_256, k0_pay6 (F := F) v74 k0_pay108 (wordBase k) (View.ld w (rW k))⟩,
   ⟨Rect.unit ![0, 128] S200x128.size inb_S200x512_S200x128_0_128, k0_pay5 (F := F) v74 k0_pay108 (wordBase k) (View.ld w (rW k))⟩,
   ⟨Rect.unit ![0, 0] S200x128.size inb_S200x512_S200x128_0_0, k0_pay4 (k0_pay3 (F := F) v74 k0_pay108 0#32 1#32 k (View.ld w (rW k)))⟩]

/-- Tile `k`'s mask: an element is allowed when its word is negative. -/
def tileMask (v74 : IVec S200x128 32) (w : Vec F S200x512 .i32) (k : Fin k0_t1_loop.trips) : Vec F S200x512 .i32 :=
  View.ld (View.canon (maskPieces v74 w k)) (Rect.unit ![0, 0] S200x512.size inb_S200x512_S200x512_0_0)

/-- The mask stores cover the tile. -/
theorem maskPieces_cover (v74 : IVec S200x128 32) (w : Vec F S200x512 .i32) (k : Fin k0_t1_loop.trips) (y : S200x512.Idx) :
    ∃ p ∈ maskPieces v74 w k, y ∈ p.1.set :=
  View.cover_of_tiled (maskPieces v74 w k) (S200x128.size : Fin S200x512.rank → ℕ) (by rfl) y

/-- One head's running maxima, sums and weighted values after the first `k` tiles. -/
def hst (i : grid0.Coords) (v74 : IVec S200x128 32) (cs : Vec F S14x8 .f32) (kt vt : Vec F S1x256x16384 .fp8e4m3) (w : Vec F S200x512 .i32)
    (q : Fin 8 → Vec F S1x200x32 .bf16) (m0 l0 : Vec F S1x200x128 .f32) (a0 : Vec F S1x200x32 .f32) (h : Fin 8) :
    ℕ → Vec F S1x200x128 .f32 × Vec F S1x200x128 .f32 × Vec F S1x200x32 .f32
  | 0 => (m0, l0, a0)
  | k + 1 =>
    if hk : k < k0_t1_loop.trips then
      let p := hst i v74 cs kt vt w q m0 l0 a0 h k
      let mask := tileMask v74 w ⟨k, hk⟩
      let sc := scores (View.ld kt (rK ⟨k, hk⟩ h)) (q h) (View.ld cs (rS i h) (Shape.Idx.first (show 0 < S1x1.numel by decide))) mask
      (newM sc p.1, newL sc mask p.1 p.2.1, newA sc mask (View.ld vt (rK ⟨k, hk⟩ h)) p.1 p.2.2)
    else hst i v74 cs kt vt w q m0 l0 a0 h k

section
variable (𝒱 : Variants) (c : Dev nD) (bd : Option 𝒱.V) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole) (arg0 : BitVec 32) (cst_30 : F .f32) (v74 : IVec S200x128 32) (X_arg1 : BufTy.Contents (Elt F) arg1.view.ty) (X_arg4 : BufTy.Contents (Elt F) arg4.view.ty) (X_arg5 : BufTy.Contents (Elt F) arg5.view.ty) (X_arg8 : BufTy.Contents (Elt F) arg8.view.ty) (X_arg9 : BufTy.Contents (Elt F) arg9.view.ty)

/-- The mask that a turn reads back is the tile's mask, computed from the words. -/
theorem maskRaw_eq (k : Fin k0_t1_loop.trips) : trip_k0_t1.sl.v299 (F := F) arg9 arg10 v74 X_arg9 k = tileMask v74 (arg9.view.read (Elt F) X_arg9) k :=
  View.readCov_eq_canon_ld arg10.view (maskPieces v74 (arg9.view.read (Elt F) X_arg9) k) _ (maskPieces_cover _ _ _)

variable (G10 : BufTy.Contents (Elt F) arg10.view.ty) (G11 : BufTy.Contents (Elt F) arg11.view.ty) (G12 : BufTy.Contents (Elt F) arg12.view.ty) (G13 : BufTy.Contents (Elt F) arg13.view.ty)

/-- What the loop's first `k` trips leave in head `h`'s rows is the head's state. -/
theorem pb_read (k : ℕ) (hk : k ≤ k0_t1_loop.trips) (h : Fin 8) :
    View.readAt (Elt F) arg11.view (rM h).toLoadRect (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.1) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).1
    ∧ View.readAt (Elt F) arg12.view (rM h).toLoadRect (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.2.1) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).2.1
    ∧ View.readAt (Elt F) arg13.view (rA h).toLoadRect (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.2.2) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).2.2 := by
  revert h
  induction k with
  | zero => intro h; exact ⟨rfl, rfl, rfl⟩
  | succ k ih =>
    intro h
    have ih' := ih (Nat.le_of_succ_le hk)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 ⟨k, hk⟩
    simp only at e
    rw [e]
    simp only [tripL_k0_t1, View.writes_append, hst, dif_pos (show k < k0_t1_loop.trips from hk)]
    rw [tripM, tripL, tripA]
    refine ⟨?_, ?_, ?_⟩
    · refine (readAt_headsM arg11.view _ (fun h => (pieceM i arg1 arg4 arg8 arg9 arg10 arg11 v74 X_arg1 X_arg4 X_arg8 X_arg9 ⟨k, hk⟩ _ h).2) h).trans ?_
      simp only [pieceM, scoresRaw, maskRaw_eq, (ih' h).1]
      rfl
    · refine (readAt_headsM arg12.view _ (fun h => (pieceL i arg1 arg4 arg8 arg9 arg10 arg11 arg12 v74 X_arg1 X_arg4 X_arg8 X_arg9 ⟨k, hk⟩ _ _ h).2) h).trans ?_
      simp only [pieceL, scoresRaw, maskRaw_eq, (ih' h).1, (ih' h).2.1]
      rfl
    · refine (readAt_headsA arg13.view _ (fun h => (pieceA i arg1 arg4 arg5 arg8 arg9 arg10 arg11 arg13 v74 X_arg1 X_arg4 X_arg5 X_arg8 X_arg9 ⟨k, hk⟩ _ _ h).2) h).trans ?_
      simp only [pieceA, scoresRaw, maskRaw_eq, (ih' h).1, (ih' h).2.2]
      rfl
end
end Cert.KernelIdeal.Step
end
-- ==== Proof.Body.lean ====
module

public import proofs.«01_k».proof.Proof.State
public import Idealize.ShloMosaic.Lib.VecWindow

@[expose] public section
set_option maxRecDepth 16384
noncomputable section
namespace Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F] [Named F]
local notation "𝕄" => MT nD τ sig Unit (Elt F) ℕ (UR sig nD τ) ℕ

/-- Head `h`'s queries, as the kernel lays them out: 200 rows of 32. -/
def qv (x3 : Vec F S1x256x200 .bf16) : Fin 8 → Vec F S1x200x32 .bf16
  | 0 => k0_pay95 x3 | 1 => k0_pay96 x3 | 2 => k0_pay97 x3 | 3 => k0_pay98 x3
  | 4 => k0_pay99 x3 | 5 => k0_pay101 (k0_pay100 x3) | 6 => k0_pay102 (k0_pay94 x3) | 7 => k0_pay103 (k0_pay94 x3)

/-- The mask words, a row without any set bit replaced by all ones. -/
def wordsv (x6 : Vec F S1x200x512 .i32) : Vec F S200x512 .i32 := k0_pay104 x6

/-- The lanes' numbers. -/
def lanes : IVec S200x128 32 := iota .tc S200x128 32 [1] iota_S200x128_d1_w32

/-- Head `h`'s running maxima, sums and weighted values after `k` tiles, from the blocks the grid point is given. -/
def hstate (i : grid0.Coords) (x1 : Vec F S14x8 .f32) (x3 : Vec F S1x256x200 .bf16) (x4 x5 : Vec F S1x256x16384 .fp8e4m3) (x6 : Vec F S1x200x512 .i32) (h : Fin 8) (k : ℕ) :
    Vec F S1x200x128 .f32 × Vec F S1x200x128 .f32 × Vec F S1x200x32 .f32 :=
  hst i lanes x1 x4 x5 (wordsv x6) (qv x3) (View.ld (Val := Elt F) (e' := .f32) (k0_pay105 (F := F)) (rM h)) (View.ld (Val := Elt F) (e' := .f32) (k0_pay106 (F := F) (Scalar.ofBits .f32 0x00000000#32)) (rM h)) (View.ld (Val := Elt F) (e' := .f32) (k0_pay107 (F := F)) (rA h)) h k

/-- Where head `h`'s value scale lies at grid point `i`. -/
def offV (i : grid0.Coords) : Fin 8 → Fin 2 → ℕ
  | 0 => k0_off18 i | 1 => k0_off19 i | 2 => k0_off20 i | 3 => k0_off21 i
  | 4 => k0_off22 i | 5 => k0_off23 i | 6 => k0_off24 i | 7 => k0_off25 i

/-- Head `h`'s value scale lies at the grid point's image and at `h`. -/
theorem offV_eq (i : grid0.Coords) (h : Fin 8) : offV i h = ![(i 0).val, h.val] := by
  fin_cases h
  exacts [k0_off18_eq i, k0_off19_eq i, k0_off20_eq i, k0_off21_eq i, k0_off22_eq i, k0_off23_eq i, k0_off24_eq i, k0_off25_eq i]

/-- Every value scale lies in its array. -/
theorem offV_inb (i : grid0.Coords) (h : Fin 8) (a : Fin 2) : offV i h a + S1x1.size a ≤ S14x8.size a := by
  fin_cases h
  exacts [k0_off18_inb i a, k0_off19_inb i a, k0_off20_inb i a, k0_off21_inb i a, k0_off22_inb i a, k0_off23_inb i a, k0_off24_inb i a, k0_off25_inb i a]

/-- The place of head `h`'s value scale at grid point `i`. -/
def rV (i : grid0.Coords) (h : Fin 8) : Rect S14x8 := Rect.unit (offV i h) S1x1.size (offV_inb i h)
/-- The first 32 lanes of head `h`'s rows of the running sums. -/
def rL (h : Fin 8) : Rect S8x200x128 := Rect.unit ![h.val, 0, 0] S1x200x32.size (by revert h; decide)
/-- Head `h`'s columns of the result block. -/
def rO (h : Fin 8) : Rect S1x200x256 := Rect.unit ![0, 0, 32 * h.val] S1x200x32.size (by revert h; decide)

/-- One head's result: the weighted values over the sums, times the value scale. -/
def outH (a l : Vec F S1x200x32 .f32) (s : Elt F .f32) : Fin 8 → Vec F S1x200x32 .bf16
  | 0 => k0_pay109 a l s | 1 => k0_pay111 (k0_pay110 a) l s | 2 => k0_pay112 a l s | 3 => k0_pay114 (k0_pay113 a l s)
  | 4 => k0_pay115 a l s | 5 => k0_pay116 a l s | 6 => k0_pay1 (k0_pay117 a) l s | 7 => k0_pay2 a l s

/-- Every head's result is computed in the same way. -/
theorem outH_eq (a l : Vec F S1x200x32 .f32) (s : Elt F .f32) (h : Fin 8) : outH a l s h = k0_pay109 a l s := by
  fin_cases h <;> rfl

/-- The first 32 lanes of the running sums' rows. -/
def low32 (l : Vec F S1x200x128 .f32) : Vec F S1x200x32 .f32 :=
  fun x => l (Fin.cons (0 : Fin 1) (Fin.cons (x 1) (Fin.cons (⟨(x 2).val, lt_of_lt_of_le (x 2).isLt (by decide)⟩ : Fin 128) (fun z => z.elim0))))

/-- The result block of a grid point. -/
def outP (i : grid0.Coords) (x1 x2 : Vec F S14x8 .f32) (x3 : Vec F S1x256x200 .bf16) (x4 x5 : Vec F S1x256x16384 .fp8e4m3) (x6 : Vec F S1x200x512 .i32) (h : Fin 8) : Vec F S1x200x32 .bf16 :=
  outH (hstate i x1 x3 x4 x5 x6 h k0_t1_loop.trips).2.2 (low32 (hstate i x1 x3 x4 x5 x6 h k0_t1_loop.trips).2.1) (View.ld x2 (rV i h) (Shape.Idx.first (show 0 < S1x1.numel by decide))) h

/-- The element of a head's rows that a column of the result block names. -/
def inCol (y : S1x200x256.Idx) : S1x200x32.Idx :=
  Fin.cons (0 : Fin 1) (Fin.cons (y 1) (Fin.cons (⟨(y 2).val % 32, Nat.mod_lt _ (by decide)⟩ : Fin 32) (fun z => z.elim0)))

/-- The result block of a grid point. -/
def outv (i : grid0.Coords) (x1 x2 : Vec F S14x8 .f32) (x3 : Vec F S1x256x200 .bf16) (x4 x5 : Vec F S1x256x16384 .fp8e4m3) (x6 : Vec F S1x200x512 .i32) : Vec F S1x200x256 .bf16 :=
  fun y => outP i x1 x2 x3 x4 x5 x6 (⟨(y 2).val / 32, by have : (y 2).val < 256 := (y 2).isLt; omega⟩ : Fin 8) (inCol y)

/-- Eight stores, one to each head's columns, leave the result block that takes each column from its head's store. -/
theorem read_headsO {sp : Space} (v : View sig .tc sp S1x200x256 .bf16) (f : BufTy.Contents (Elt F) v.ty) (P : Fin 8 → S1x200x32.Idx → Elt F .bf16) :
    v.read (Elt F) (v.writes (Elt F) f (([7, 6, 5, 4, 3, 2, 1, 0] : List (Fin 8)).map fun h => (⟨rO h, P h⟩ : View.Piece (Elt F) S1x200x256 .bf16)))
      = fun y => P (⟨(y 2).val / 32, by have : (y 2).val < 256 := (y 2).isLt; omega⟩ : Fin 8) (inCol y) := by
  have hG : ∀ (h : Fin 8) (x : S1x200x32.Idx), P h x = P (⟨(((rO h).emb x) 2).val / 32, by have : (((rO h).emb x) 2).val < 256 := (((rO h).emb x) 2).isLt; omega⟩ : Fin 8) (inCol ((rO h).emb x)) := by
    intro h x
    have h0 : (x 0).val < 1 := (x 0).isLt
    have h2 : (x 2).val < 32 := (x 2).isLt
    have e2 : (((rO h).emb x) 2).val = 32 * h.val + (x 2).val := by
      show 32 * h.val + 1 * (x 2).val = _
      omega
    have e0 : (⟨(((rO h).emb x) 2).val / 32, by have : (((rO h).emb x) 2).val < 256 := (((rO h).emb x) 2).isLt; omega⟩ : Fin 8) = h := by
      apply Fin.ext
      show (((rO h).emb x) 2).val / 32 = h.val
      omega
    have e1 : (inCol ((rO h).emb x) : S1x200x32.Idx) = x := by
      funext a
      apply Fin.ext
      fin_cases a
      · show 0 = (x 0).val
        omega
      · show 0 + 1 * (x 1).val = (x 1).val
        omega
      · show (((rO h).emb x) 2).val % 32 = (x 2).val
        omega
    rw [e0, e1]
  funext y
  refine View.read_writes_apply_of_pieces (Val := Elt F) v f (G := fun y => P (⟨(y 2).val / 32, by have : (y 2).val < 256 := (y 2).isLt; omega⟩ : Fin 8) (inCol y)) _ ?_ y ?_
  · intro p hp x
    obtain ⟨h', _, rfl⟩ := List.mem_map.1 hp
    exact hG h' x
  · have hy : (y 2).val < 256 := (y 2).isLt
    have hy0 : (y 0).val < 1 := (y 0).isLt
    have hy1 : (y 1).val < 200 := (y 1).isLt
    refine ⟨⟨rO (⟨(y 2).val / 32, by omega⟩ : Fin 8), P _⟩, List.mem_map.2 ⟨_, ?_, rfl⟩, ?_⟩
    · generalize (⟨(y 2).val / 32, by omega⟩ : Fin 8) = h
      fin_cases h <;> decide
    · refine (Rect.mem_set_unit (s := S1x200x256) (inb := by intro a; fin_cases a <;> simp [Shape.size] <;> omega)).2 fun a => ?_
      fin_cases a
      · show 0 ≤ (y 0).val ∧ (y 0).val < 0 + 1
        omega
      · show 0 ≤ (y 1).val ∧ (y 1).val < 0 + 200
        omega
      · show 32 * ((y 2).val / 32) ≤ (y 2).val ∧ (y 2).val < 32 * ((y 2).val / 32) + 32
        omega

/-- The first 32 lanes of a head's rows, loaded directly. -/
theorem ld_rL (X : Vec F S8x200x128 .f32) (h : Fin 8) : View.ld (Val := Elt F) (e' := .f32) X (rL h) = low32 (View.ld (Val := Elt F) (e' := .f32) X (rM h)) := by
  funext x
  have h0 : (x 0).val < 1 := (x 0).isLt
  refine congrArg X (funext fun a => Fin.ext ?_)
  fin_cases a
  · show h.val + 1 * (x 0).val = h.val + 1 * 0
    omega
  · rfl
  · rfl

set_option maxHeartbeats 1000000 in
/-- The body keeps its six input blocks, leaves `outv` of them in the result's block, and gives the scratch buffers back. -/
theorem sound_kernel (c : Dev nD) (E : Set ℕ) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole)
    (x1 : Vec F S14x8 .f32) (x2 : Vec F S14x8 .f32) (x3 : Vec F S1x256x200 .bf16) (x4 : Vec F S1x256x16384 .fp8e4m3) (x5 : Vec F S1x256x16384 .fp8e4m3) (x6 : Vec F S1x200x512 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv i x1 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_masked_xattn i arg1 harg1 arg2 harg2 arg3 harg3 arg4 harg4 arg5 harg5 arg6 harg6 arg7 harg7 arg8 harg8 arg9 harg9 arg10 harg10 arg11 harg11 arg12 harg12 arg13 harg13) K := by
  simp only [cc0_masked_xattn_eq_skeleton]; unfold cc0_masked_xattn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have hq : (fun h => View.readAt (Elt F) arg8.view (rA h).toLoadRect (arg8.view.writes (Elt F) arg8.view.junk (sound_kernel.sl.H8_8 c arg3 f3))) = qv (arg3.view.read (Elt F) f3) := by
      have H8 : sound_kernel.sl.H8_8 c arg3 f3 = List.map (fun h => (⟨rA h, qv (View.readAt (Elt F) arg3.view (Rect.unit ![0, 0, 0] S1x256x200.size inb_S1x256x200_S1x256x200_0_0_0).toLoadRect f3) h⟩ : View.Piece (Elt F) S8x200x32 .bf16)) [7, 6, 5, 4, 3, 2, 1, 0] := rfl
      rw [H8, View.readAt_full]
      funext h
      exact readAt_headsA arg8.view _ _ h
    have hw : arg9.view.read (Elt F) (arg9.view.writes (Elt F) arg9.view.junk (sound_kernel.sl.H9_1 c arg6 f6)) = wordsv (arg6.view.read (Elt F) f6) := by
      refine (View.read_writes_full arg9.view _ _ _ _).trans ?_
      show k0_pay104 (View.readAt (Elt F) arg6.view (Rect.unit ![0, 0, 0] S1x200x512.size inb_S1x200x512_S1x200x512_0_0_0).toLoadRect f6) = _
      rw [View.readAt_full]
      rfl
    have hm (h : Fin 8) : View.readAt (Elt F) arg11.view (rM h).toLoadRect (arg11.view.writes (Elt F) arg11.view.junk sound_kernel.sl.H11_1) = View.ld (Val := Elt F) (e' := .f32) (k0_pay105 (F := F)) (rM h) := by
      rw [View.readAt_eq_ld]
      exact congrArg (fun X => View.ld (Val := Elt F) (e' := .f32) X (rM h)) (View.read_writes_full arg11.view _ _ _ _)
    have hl (h : Fin 8) : View.readAt (Elt F) arg12.view (rM h).toLoadRect (arg12.view.writes (Elt F) arg12.view.junk sound_kernel.sl.H12_1) = View.ld (Val := Elt F) (e' := .f32) (k0_pay106 (F := F) (Scalar.ofBits .f32 0x00000000#32)) (rM h) := by
      rw [View.readAt_eq_ld]
      exact congrArg (fun X => View.ld (Val := Elt F) (e' := .f32) X (rM h)) (View.read_writes_full arg12.view _ _ _ _)
    have ha (h : Fin 8) : View.readAt (Elt F) arg13.view (rA h).toLoadRect (arg13.view.writes (Elt F) arg13.view.junk sound_kernel.sl.H13_1) = View.ld (Val := Elt F) (e' := .f32) (k0_pay107 (F := F)) (rA h) := by
      rw [View.readAt_eq_ld]
      exact congrArg (fun X => View.ld (Val := Elt F) (e' := .f32) X (rA h)) (View.read_writes_full arg13.view _ _ _ _)

    have hpb := pb_read (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips le_rfl
    simp only [hq, hw, hm, hl, ha, ← View.writes_append] at hpb
    have hP (h : Fin 8) : outH (View.readAt (Elt F) arg13.view (rA h).toLoadRect (arg13.view.writes (Elt F) arg13.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.2 ++ sound_kernel.sl.H13_1)))
        (View.readAt (Elt F) arg12.view (rL h).toLoadRect (arg12.view.writes (Elt F) arg12.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.1 ++ sound_kernel.sl.H12_1)))
        (View.readAt (Elt F) arg2.view (rV i h).toLoadRect f2 (Shape.Idx.first (show 0 < S1x1.numel by decide))) h
        = outP i (arg1.view.read (Elt F) f1) (arg2.view.read (Elt F) f2) (arg3.view.read (Elt F) f3) (arg4.view.read (Elt F) f4) (arg5.view.read (Elt F) f5) (arg6.view.read (Elt F) f6) h := by
      rw [(hpb h).2.2, View.readAt_eq_ld arg12.view, ld_rL, ← View.readAt_eq_ld arg12.view, (hpb h).2.1]
      rfl

    refine Eq.trans (congrArg (fun L => arg7.view.read (Elt F) (arg7.view.writes (Elt F) f7 L)) (?_ : _ = List.map (fun h => (⟨rO h, outH (View.readAt (Elt F) arg13.view (rA h).toLoadRect (arg13.view.writes (Elt F) arg13.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.2 ++ sound_kernel.sl.H13_1)))
        (View.readAt (Elt F) arg12.view (rL h).toLoadRect (arg12.view.writes (Elt F) arg12.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.1 ++ sound_kernel.sl.H12_1)))
        (View.readAt (Elt F) arg2.view (rV i h).toLoadRect f2 (Shape.Idx.first (show 0 < S1x1.numel by decide))) h⟩ : View.Piece (Elt F) S1x200x256 .bf16)) [7, 6, 5, 4, 3, 2, 1, 0])) ?_
    · rfl
    refine (read_headsO (F := F) arg7.view f7 _).trans ?_
    funext y
    exact congrFun (hP _) _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl
end Cert.KernelIdeal.Step
end
-- ==== Proof.Run.lean ====
module

public import proofs.«01_k».proof.Proof.Body
public import Idealize.ShloMosaic.Lib.Memref
public import Idealize.ShloMosaic.Lib.Claim

@[expose] public section
set_option maxRecDepth 16384
noncomputable section
namespace Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The pipeline's proof data on core `c`: the arrays as the region finds them; after the body at point `t` each input's buffer
    at its block and the output's at `outv` of the input blocks; the scratch buffers at any contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (grid0.coords t) (iblk m c 0 t) (iblk m c 1 t) (iblk m c 2 t) (iblk m c 3 t) (iblk m c 4 t) (iblk m c 5 t)
  Φ _ := Pipeline.ΦA spec0 c
  q _ := fullShare
  owed _ := 0

/-- Every window's array is as the region finds it. -/
theorem A_eq (c : Dev nD) (w : Fin cfg0.W) : (dats m 0 c).A w = V m c (Pipeline.arrRef spec0 w) := by dsimp only [dats]
/-- The body leaves input window 0's block in its buffer, -/
theorem after0_0 (c : Dev nD) (t : Fin cfg0.N) : (dats m 0 c).after 0 t = iblk m c 0 t := by dsimp only [dats]
/-- which held that block when the body began. -/
theorem before0_0 (c : Dev nD) (t : Fin cfg0.N) (d) : (dats m 0 c).before 0 t d = iblk m c 0 t := before0_0_of m (dats m 0 c) (A_eq m c 0) (after0_0 m c) t d
/-- The body leaves input window 1's block in its buffer, -/
theorem after0_1 (c : Dev nD) (t : Fin cfg0.N) : (dats m 0 c).after 1 t = iblk m c 1 t := by dsimp only [dats]
/-- which held that block when the body began. -/
theorem before0_1 (c : Dev nD) (t : Fin cfg0.N) (d) : (dats m 0 c).before 1 t d = iblk m c 1 t := before0_1_of m (dats m 0 c) (A_eq m c 1) (after0_1 m c) t d
/-- The body leaves input window 2's block in its buffer, -/
theorem after0_2 (c : Dev nD) (t : Fin cfg0.N) : (dats m 0 c).after 2 t = iblk m c 2 t := by dsimp only [dats]
/-- which held that block when the body began. -/
theorem before0_2 (c : Dev nD) (t : Fin cfg0.N) (d) : (dats m 0 c).before 2 t d = iblk m c 2 t := before0_2_of m (dats m 0 c) (A_eq m c 2) (after0_2 m c) t d
/-- The body leaves input window 3's block in its buffer, -/
theorem after0_3 (c : Dev nD) (t : Fin cfg0.N) : (dats m 0 c).after 3 t = iblk m c 3 t := by dsimp only [dats]
/-- which held that block when the body began. -/
theorem before0_3 (c : Dev nD) (t : Fin cfg0.N) (d) : (dats m 0 c).before 3 t d = iblk m c 3 t := before0_3_of m (dats m 0 c) (A_eq m c 3) (after0_3 m c) t d
/-- The body leaves input window 4's block in its buffer, -/
theorem after0_4 (c : Dev nD) (t : Fin cfg0.N) : (dats m 0 c).after 4 t = iblk m c 4 t := by dsimp only [dats]
/-- which held that block when the body began. -/
theorem before0_4 (c : Dev nD) (t : Fin cfg0.N) (d) : (dats m 0 c).before 4 t d = iblk m c 4 t := before0_4_of m (dats m 0 c) (A_eq m c 4) (after0_4 m c) t d
/-- The body leaves input window 5's block in its buffer, -/
theorem after0_5 (c : Dev nD) (t : Fin cfg0.N) : (dats m 0 c).after 5 t = iblk m c 5 t := by dsimp only [dats]
/-- which held that block when the body began. -/
theorem before0_5 (c : Dev nD) (t : Fin cfg0.N) (d) : (dats m 0 c).before 5 t d = iblk m c 5 t := before0_5_of m (dats m 0 c) (A_eq m c 5) (after0_5 m c) t d
/-- The body leaves `outv` of the input blocks in the result's buffer. -/
theorem after0_6 (c : Dev nD) (t : Fin cfg0.N) : (dats m 0 c).after 6 t = outv (grid0.coords t) (iblk m c 0 t) (iblk m c 1 t) (iblk m c 2 t) (iblk m c 3 t) (iblk m c 4 t) (iblk m c 5 t) := by dsimp only [dats]

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, and the scratch buffers are lent to the body and come back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨⟨%g0, G0⟩, ⟨%g1, G1⟩, ⟨%g2, G2⟩, ⟨%g3, G3⟩, ⟨%g4, G4⟩, ⟨%g5, G5⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G0]; · iexists g0; iexact G0
  isplitl [G1]; · iexists g1; iexact G1
  isplitl [G2]; · iexists g2; iexact G2
  isplitl [G3]; · iexists g3; iexact G3
  isplitl [G4]; · iexists g4; iexact G4
  isplitl [G5]; · iexists g5; iexact G5
  iintro ⟨H0, H1, H2, H3, H4, H5, H6, ⟨%e0, G0⟩, ⟨%e1, G1⟩, ⟨%e2, G2⟩, ⟨%e3, G3⟩, ⟨%e4, G4⟩, ⟨%e5, G5⟩⟩
  isplitl [G0 G1 G2 G3 G4 G5 Hr]
  · isplitr [Hr]
    · isplitl [G0]; · iexists e0; iexact G0
      isplitl [G1]; · iexists e1; iexact G1
      isplitl [G2]; · iexists e2; iexact G2
      isplitl [G3]; · iexists e3; iexact G3
      isplitl [G4]; · iexists e4; iexact G4
      iexists e5; iexact G5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body's triple, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with every array at what the proof data computes and with every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Step
end
-- ==== Proof.Bits.Step.lean ====
module

public import proofs.«01_k».proof.Proof.Gen.Kernel.Loops
public import proofs.«01_k».proof.Proof.Gen.Kernel.Frame

@[expose] public section
set_option maxRecDepth 16384
noncomputable section
namespace Cert.Kernel.Step
open Idealize.ShloMosaic Idealize.ShloMosaic.TcCoe Idealize.ShloMosaic.Tactic
open Cert.Kernel.Gen
variable {F : FTy → Type} [FloatOps F]

/-- Where head `h`'s rows of tile `k` begin in a block of keys or values. -/
def offK (k : Fin k0_t1_loop.trips) : Fin 8 → Fin 3 → ℕ
  | 0 => k0_off2 k | 1 => k0_off4 k | 2 => k0_off6 k | 3 => k0_off8 k
  | 4 => k0_off10 k | 5 => k0_off12 k | 6 => k0_off14 k | 7 => k0_off16 k

/-- Where head `h`'s key scale lies at grid point `i`. -/
def offS (i : grid0.Coords) : Fin 8 → Fin 2 → ℕ
  | 0 => k0_off3 i | 1 => k0_off5 i | 2 => k0_off7 i | 3 => k0_off9 i
  | 4 => k0_off11 i | 5 => k0_off13 i | 6 => k0_off15 i | 7 => k0_off17 i

/-- Head `h`'s rows of tile `k` begin at row `32 h` and pixel `512 k`. -/
theorem offK_eq (k : Fin k0_t1_loop.trips) (h : Fin 8) : offK k h = ![0, 32 * h.val, 512 * k.val] := by
  revert k h; decide +kernel

/-- Head `h`'s key scale lies at the grid point's image and at `h`. -/
theorem offS_eq (i : grid0.Coords) (h : Fin 8) : offS i h = ![(i 0).val, h.val] := by
  fin_cases h
  exacts [k0_off3_eq i, k0_off5_eq i, k0_off7_eq i, k0_off9_eq i, k0_off11_eq i, k0_off13_eq i, k0_off15_eq i, k0_off17_eq i]

/-- Every tile's rows lie in the block. -/
theorem offK_inb (k : Fin k0_t1_loop.trips) (h : Fin 8) (a : Fin 3) : offK k h a + S1x32x512.size a ≤ S1x256x16384.size a := by
  revert k h a; decide +kernel

/-- Every key scale lies in its array. -/
theorem offS_inb (i : grid0.Coords) (h : Fin 8) (a : Fin 2) : offS i h a + S1x1.size a ≤ S14x8.size a := by
  fin_cases h
  exacts [k0_off3_inb i a, k0_off5_inb i a, k0_off7_inb i a, k0_off9_inb i a, k0_off11_inb i a, k0_off13_inb i a, k0_off15_inb i a, k0_off17_inb i a]

/-- Head `h`'s rows of the running maxima and sums. -/
def rM (h : Fin 8) : Rect S8x200x128 := Rect.unit ![h.val, 0, 0] S1x200x128.size (by revert h; decide)
/-- Head `h`'s rows of the accumulator and of the queries. -/
def rA (h : Fin 8) : Rect S8x200x32 := Rect.unit ![h.val, 0, 0] S1x200x32.size (by revert h; decide)

/-- Head `h`'s rows of tile `k` in a block of keys or values. -/
def rK (k : Fin k0_t1_loop.trips) (h : Fin 8) : Rect S1x256x16384 := Rect.unit (offK k h) S1x32x512.size (offK_inb k h)
/-- The place of head `h`'s scale at grid point `i`. -/
def rS (i : grid0.Coords) (h : Fin 8) : Rect S14x8 := Rect.unit (offS i h) S1x1.size (offS_inb i h)

/-- One head's masked scores over one tile. -/
def scores (kt : Vec F S1x32x512 .fp8e4m3) (q : Vec F S1x200x32 .bf16) (cs : Elt F .f32) (mask : Vec F S200x512 .i32) : FVec F S200x512 .f32 :=
  k0_pay10 kt q cs mask
/-- One head's running maxima after one tile. -/
def newM (sc : FVec F S200x512 .f32) (m : Vec F S1x200x128 .f32) : FVec F S1x200x128 .f32 := k0_pay15 sc m
/-- One head's running sums after one tile. -/
def newL (sc : FVec F S200x512 .f32) (mask : Vec F S200x512 .i32) (m l : Vec F S1x200x128 .f32) : FVec F S1x200x128 .f32 := k0_pay16 sc m mask l
/-- One head's running weighted values after one tile. -/
def newA (sc : FVec F S200x512 .f32) (mask : Vec F S200x512 .i32) (vt : Vec F S1x32x512 .fp8e4m3) (m : Vec F S1x200x128 .f32) (a : Vec F S1x200x32 .f32) : FVec F S1x200x32 .f32 :=
  k0_pay18 (k0_pay17 (k0_pay9 vt) sc m mask a)

section
variable (𝒱 : Variants) (c : Dev nD) (bd : Option 𝒱.V) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole) (arg0 : BitVec 32) (cst_30 : F .f32) (v74 : IVec S200x128 32) (X_arg1 : BufTy.Contents (Elt F) arg1.view.ty) (X_arg4 : BufTy.Contents (Elt F) arg4.view.ty) (X_arg5 : BufTy.Contents (Elt F) arg5.view.ty) (X_arg8 : BufTy.Contents (Elt F) arg8.view.ty) (X_arg9 : BufTy.Contents (Elt F) arg9.view.ty) (k : Fin k0_t1_loop.trips)

/-- The tile's mask, as the program reads it back from its buffer. -/
def maskRaw : Vec F S200x512 .i32 := trip_k0_t1.sl.v299 arg9 arg10 v74 X_arg9 k

/-- Head `h`'s masked scores of a tile, from what the program reads from its buffers. -/
def scoresRaw (h : Fin 8) : FVec F S200x512 .f32 :=
  scores (View.readAt (Elt F) arg4.view (rK k h).toLoadRect X_arg4)
    (View.readAt (Elt F) arg8.view (rA h).toLoadRect X_arg8)
    (View.readAt (Elt F) arg1.view (rS i h).toLoadRect X_arg1 (Shape.Idx.first (show 0 < S1x1.numel by decide)))
    (trip_k0_t1.sl.v299 arg9 arg10 v74 X_arg9 k)

variable (f10 : BufTy.Contents (Elt F) arg10.view.ty) (f11 : BufTy.Contents (Elt F) arg11.view.ty) (f12 : BufTy.Contents (Elt F) arg12.view.ty) (f13 : BufTy.Contents (Elt F) arg13.view.ty)

/-- What the tile's turn stores in head `h`'s rows of the accumulators. -/
def pieceA (h : Fin 8) : View.Piece (Elt F) S8x200x32 .f32 := ⟨rA h, newA (scoresRaw i arg1 arg4 arg8 arg9 arg10 v74 X_arg1 X_arg4 X_arg8 X_arg9 k h)
   (trip_k0_t1.sl.v299 arg9 arg10 v74 X_arg9 k)
   (View.readAt (Elt F) arg5.view (rK k h).toLoadRect X_arg5)
   (View.readAt (Elt F) arg11.view (rM h).toLoadRect f11)
   (View.readAt (Elt F) arg13.view (rA h).toLoadRect f13)⟩

/-- What the tile's turn stores in head `h`'s rows of the running maxima. -/
def pieceM (h : Fin 8) : View.Piece (Elt F) S8x200x128 .f32 := ⟨rM h, newM (scoresRaw i arg1 arg4 arg8 arg9 arg10 v74 X_arg1 X_arg4 X_arg8 X_arg9 k h)
   (View.readAt (Elt F) arg11.view (rM h).toLoadRect f11)⟩

/-- What the tile's turn stores in head `h`'s rows of the running sums. -/
def pieceL (h : Fin 8) : View.Piece (Elt F) S8x200x128 .f32 := ⟨rM h, newL (scoresRaw i arg1 arg4 arg8 arg9 arg10 v74 X_arg1 X_arg4 X_arg8 X_arg9 k h)
   (trip_k0_t1.sl.v299 arg9 arg10 v74 X_arg9 k)
   (View.readAt (Elt F) arg11.view (rM h).toLoadRect f11)
   (View.readAt (Elt F) arg12.view (rM h).toLoadRect f12)⟩

/-- A turn of the loop leaves the running maxima with the eight heads' stores, the last first. -/
theorem tripM : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.1 f10 f11 f12 f13 = ([7, 6, 5, 4, 3, 2, 1, 0] : List (Fin 8)).map (pieceM i arg1 arg4 arg8 arg9 arg10 arg11 v74 X_arg1 X_arg4 X_arg8 X_arg9 k f11) := by
  unfold trip_k0_t1
  rfl

/-- A turn of the loop leaves the running sums with the eight heads' stores, the last first. -/
theorem tripL : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.2.1 f10 f11 f12 f13 = ([7, 6, 5, 4, 3, 2, 1, 0] : List (Fin 8)).map (pieceL i arg1 arg4 arg8 arg9 arg10 arg11 arg12 v74 X_arg1 X_arg4 X_arg8 X_arg9 k f11 f12) := by
  unfold trip_k0_t1
  rfl

/-- A turn of the loop leaves the accumulators with the eight heads' stores, the last first. -/
theorem tripA : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 k).2.2.2.1 f10 f11 f12 f13 = ([7, 6, 5, 4, 3, 2, 1, 0] : List (Fin 8)).map (pieceA i arg1 arg4 arg5 arg8 arg9 arg10 arg11 arg13 v74 X_arg1 X_arg4 X_arg5 X_arg8 X_arg9 k f11 f13) := by
  unfold trip_k0_t1
  rfl
end
end Cert.Kernel.Step
end
-- ==== Proof.Bits.State.lean ====
module

public import proofs.«01_k».proof.Proof.Bits.Step

@[expose] public section
set_option maxRecDepth 16384
noncomputable section
namespace Cert.Kernel.Step
open Idealize.ShloMosaic Idealize.ShloMosaic.TcCoe Idealize.ShloMosaic.Tactic
open Cert.Kernel.Gen
variable {F : FTy → Type} [FloatOps F]

/-- The loop has 32 turns. -/
theorem trips_eq : k0_t1_loop.trips = 32 := by decide +kernel

/-- The element of an array of eight heads that a head's row and lane name. -/
def inHead {n : ℕ} (y : (⟨3, ![8, 200, n]⟩ : Shape).Idx) : (⟨3, ![1, 200, n]⟩ : Shape).Idx :=
  Fin.cons (0 : Fin 1) (Fin.cons (y 1) (Fin.cons (y 2) (fun z => z.elim0)))

/-- Eight stores, one to each head's rows, leave in head `h`'s rows what was stored there. -/
theorem readAt_headsM {e : EltTy} {sp : Space} (v : View sig .tc sp S8x200x128 e) (f : BufTy.Contents (Elt F) v.ty) (P : Fin 8 → S1x200x128.Idx → Elt F e) (h : Fin 8) :
    v.readAt (Elt F) (rM h).toLoadRect (v.writes (Elt F) f (([7, 6, 5, 4, 3, 2, 1, 0] : List (Fin 8)).map fun h => (⟨rM h, P h⟩ : View.Piece (Elt F) S8x200x128 e))) = P h := by
  have hG : ∀ (h : Fin 8) (x : S1x200x128.Idx), P h x = P (((rM h).emb x) 0) (inHead ((rM h).emb x)) := by
    intro h x
    have e0 : ((rM h).emb x) 0 = h := by
      apply Fin.ext
      have : (x 0).val < 1 := (x 0).isLt
      show h.val + 1 * (x 0).val = h.val
      omega
    have e1 : (inHead ((rM h).emb x) : S1x200x128.Idx) = x := by
      funext a
      apply Fin.ext
      have : (x 0).val < 1 := (x 0).isLt
      fin_cases a
      · show 0 = (x 0).val
        omega
      · show 0 + 1 * (x 1).val = (x 1).val
        omega
      · show 0 + 1 * (x 2).val = (x 2).val
        omega
    rw [e0, e1]
  funext x
  rw [View.readAt_eq_ld]
  refine (View.read_writes_apply_of_pieces (Val := Elt F) v f (G := fun y => P (y 0) (inHead y)) _ ?_ ((rM h).emb x) ?_).trans (hG h x).symm
  · intro p hp x
    obtain ⟨h', _, rfl⟩ := List.mem_map.1 hp
    exact hG h' x
  · refine ⟨⟨rM h, P h⟩, List.mem_map.2 ⟨h, ?_, rfl⟩, by rw [← Rect.map_emb_univ]; exact Finset.mem_map_of_mem _ (Finset.mem_univ x)⟩
    fin_cases h <;> decide

/-- Eight stores, one to each head's rows, leave in head `h`'s rows what was stored there. -/
theorem readAt_headsA {e : EltTy} {sp : Space} (v : View sig .tc sp S8x200x32 e) (f : BufTy.Contents (Elt F) v.ty) (P : Fin 8 → S1x200x32.Idx → Elt F e) (h : Fin 8) :
    v.readAt (Elt F) (rA h).toLoadRect (v.writes (Elt F) f (([7, 6, 5, 4, 3, 2, 1, 0] : List (Fin 8)).map fun h => (⟨rA h, P h⟩ : View.Piece (Elt F) S8x200x32 e))) = P h := by
  have hG : ∀ (h : Fin 8) (x : S1x200x32.Idx), P h x = P (((rA h).emb x) 0) (inHead ((rA h).emb x)) := by
    intro h x
    have e0 : ((rA h).emb x) 0 = h := by
      apply Fin.ext
      have : (x 0).val < 1 := (x 0).isLt
      show h.val + 1 * (x 0).val = h.val
      omega
    have e1 : (inHead ((rA h).emb x) : S1x200x32.Idx) = x := by
      funext a
      apply Fin.ext
      have : (x 0).val < 1 := (x 0).isLt
      fin_cases a
      · show 0 = (x 0).val
        omega
      · show 0 + 1 * (x 1).val = (x 1).val
        omega
      · show 0 + 1 * (x 2).val = (x 2).val
        omega
    rw [e0, e1]
  funext x
  rw [View.readAt_eq_ld]
  refine (View.read_writes_apply_of_pieces (Val := Elt F) v f (G := fun y => P (y 0) (inHead y)) _ ?_ ((rA h).emb x) ?_).trans (hG h x).symm
  · intro p hp x
    obtain ⟨h', _, rfl⟩ := List.mem_map.1 hp
    exact hG h' x
  · refine ⟨⟨rA h, P h⟩, List.mem_map.2 ⟨h, ?_, rfl⟩, by rw [← Rect.map_emb_univ]; exact Finset.mem_map_of_mem _ (Finset.mem_univ x)⟩
    fin_cases h <;> decide

/-- The 128 columns of mask words that tile `k` reads. -/
def rW (k : Fin k0_t1_loop.trips) : Rect S200x512 := Rect.unit (k0_off1 k) S200x128.size (k0_off1_inb k)

/-- The number of mask words before tile `k`, as the kernel computes it. -/
def wordBase (k : Fin k0_t1_loop.trips) : BitVec 32 := Scalar.muli (Scf.iv 0#32 1#32 k) 16#32

/-- The four stores that fill tile `k`'s mask: 128 columns each. -/
def maskPieces (v74 : IVec S200x128 32) (w : Vec F S200x512 .i32) (k : Fin k0_t1_loop.trips) : List (View.Piece (Elt F) S200x512 .i32) :=
  [⟨Rect.unit ![0, 384] S200x128.size inb_S200x512_S200x128_0_384, k0_pay8 (F := F) k0_pay108 (wordBase k) (View.ld w (rW k)) (k0_pay7 v74)⟩,
   ⟨Rect.unit ![0, 256] S200x128.size inb_S200x512_S200x128_0_256, k0_pay6 (F := F) v74 k0_pay108 (wordBase k) (View.ld w (rW k))⟩,
   ⟨Rect.unit ![0, 128] S200x128.size inb_S200x512_S200x128_0_128, k0_pay5 (F := F) v74 k0_pay108 (wordBase k) (View.ld w (rW k))⟩,
   ⟨Rect.unit ![0, 0] S200x128.size inb_S200x512_S200x128_0_0, k0_pay4 (k0_pay3 (F := F) v74 k0_pay108 0#32 1#32 k (View.ld w (rW k)))⟩]

/-- Tile `k`'s mask: an element is allowed when its word is negative. -/
def tileMask (v74 : IVec S200x128 32) (w : Vec F S200x512 .i32) (k : Fin k0_t1_loop.trips) : Vec F S200x512 .i32 :=
  View.ld (View.canon (maskPieces v74 w k)) (Rect.unit ![0, 0] S200x512.size inb_S200x512_S200x512_0_0)

/-- The mask stores cover the tile. -/
theorem maskPieces_cover (v74 : IVec S200x128 32) (w : Vec F S200x512 .i32) (k : Fin k0_t1_loop.trips) (y : S200x512.Idx) :
    ∃ p ∈ maskPieces v74 w k, y ∈ p.1.set :=
  View.cover_of_tiled (maskPieces v74 w k) (S200x128.size : Fin S200x512.rank → ℕ) (by rfl) y

/-- One head's running maxima, sums and weighted values after the first `k` tiles. -/
def hst (i : grid0.Coords) (v74 : IVec S200x128 32) (cs : Vec F S14x8 .f32) (kt vt : Vec F S1x256x16384 .fp8e4m3) (w : Vec F S200x512 .i32)
    (q : Fin 8 → Vec F S1x200x32 .bf16) (m0 l0 : Vec F S1x200x128 .f32) (a0 : Vec F S1x200x32 .f32) (h : Fin 8) :
    ℕ → Vec F S1x200x128 .f32 × Vec F S1x200x128 .f32 × Vec F S1x200x32 .f32
  | 0 => (m0, l0, a0)
  | k + 1 =>
    if hk : k < k0_t1_loop.trips then
      let p := hst i v74 cs kt vt w q m0 l0 a0 h k
      let mask := tileMask v74 w ⟨k, hk⟩
      let sc := scores (View.ld kt (rK ⟨k, hk⟩ h)) (q h) (View.ld cs (rS i h) (Shape.Idx.first (show 0 < S1x1.numel by decide))) mask
      (newM sc p.1, newL sc mask p.1 p.2.1, newA sc mask (View.ld vt (rK ⟨k, hk⟩ h)) p.1 p.2.2)
    else hst i v74 cs kt vt w q m0 l0 a0 h k

section
variable (𝒱 : Variants) (c : Dev nD) (bd : Option 𝒱.V) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole) (arg0 : BitVec 32) (cst_30 : F .f32) (v74 : IVec S200x128 32) (X_arg1 : BufTy.Contents (Elt F) arg1.view.ty) (X_arg4 : BufTy.Contents (Elt F) arg4.view.ty) (X_arg5 : BufTy.Contents (Elt F) arg5.view.ty) (X_arg8 : BufTy.Contents (Elt F) arg8.view.ty) (X_arg9 : BufTy.Contents (Elt F) arg9.view.ty)

/-- The mask that a turn reads back is the tile's mask, computed from the words. -/
theorem maskRaw_eq (k : Fin k0_t1_loop.trips) : trip_k0_t1.sl.v299 (F := F) arg9 arg10 v74 X_arg9 k = tileMask v74 (arg9.view.read (Elt F) X_arg9) k :=
  View.readCov_eq_canon_ld arg10.view (maskPieces v74 (arg9.view.read (Elt F) X_arg9) k) _ (maskPieces_cover _ _ _)

variable (G10 : BufTy.Contents (Elt F) arg10.view.ty) (G11 : BufTy.Contents (Elt F) arg11.view.ty) (G12 : BufTy.Contents (Elt F) arg12.view.ty) (G13 : BufTy.Contents (Elt F) arg13.view.ty)

/-- What the loop's first `k` trips leave in head `h`'s rows is the head's state. -/
theorem pb_read (k : ℕ) (hk : k ≤ k0_t1_loop.trips) (h : Fin 8) :
    View.readAt (Elt F) arg11.view (rM h).toLoadRect (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.1) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).1
    ∧ View.readAt (Elt F) arg12.view (rM h).toLoadRect (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.2.1) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).2.1
    ∧ View.readAt (Elt F) arg13.view (rA h).toLoadRect (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 k).2.2.2) = (hst i v74 (arg1.view.read (Elt F) X_arg1) (arg4.view.read (Elt F) X_arg4) (arg5.view.read (Elt F) X_arg5) (arg9.view.read (Elt F) X_arg9) (fun h => View.readAt (Elt F) arg8.view (rA h).toLoadRect X_arg8 ) (View.readAt (Elt F) arg11.view (rM h).toLoadRect G11) (View.readAt (Elt F) arg12.view (rM h).toLoadRect G12) (View.readAt (Elt F) arg13.view (rA h).toLoadRect G13) h k).2.2 := by
  revert h
  induction k with
  | zero => intro h; exact ⟨rfl, rfl, rfl⟩
  | succ k ih =>
    intro h
    have ih' := ih (Nat.le_of_succ_le hk)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg0 cst_30 v74 X_arg1 X_arg4 X_arg5 X_arg8 X_arg9 G10 G11 G12 G13 ⟨k, hk⟩
    simp only at e
    rw [e]
    simp only [tripL_k0_t1, View.writes_append, hst, dif_pos (show k < k0_t1_loop.trips from hk)]
    rw [tripM, tripL, tripA]
    refine ⟨?_, ?_, ?_⟩
    · refine (readAt_headsM arg11.view _ (fun h => (pieceM i arg1 arg4 arg8 arg9 arg10 arg11 v74 X_arg1 X_arg4 X_arg8 X_arg9 ⟨k, hk⟩ _ h).2) h).trans ?_
      simp only [pieceM, scoresRaw, maskRaw_eq, (ih' h).1]
      rfl
    · refine (readAt_headsM arg12.view _ (fun h => (pieceL i arg1 arg4 arg8 arg9 arg10 arg11 arg12 v74 X_arg1 X_arg4 X_arg8 X_arg9 ⟨k, hk⟩ _ _ h).2) h).trans ?_
      simp only [pieceL, scoresRaw, maskRaw_eq, (ih' h).1, (ih' h).2.1]
      rfl
    · refine (readAt_headsA arg13.view _ (fun h => (pieceA i arg1 arg4 arg5 arg8 arg9 arg10 arg11 arg13 v74 X_arg1 X_arg4 X_arg5 X_arg8 X_arg9 ⟨k, hk⟩ _ _ h).2) h).trans ?_
      simp only [pieceA, scoresRaw, maskRaw_eq, (ih' h).1, (ih' h).2.2]
      rfl
end
end Cert.Kernel.Step
end
-- ==== Proof.Bits.Body.lean ====
module

public import proofs.«01_k».proof.Proof.Bits.State
public import Idealize.ShloMosaic.Lib.VecWindow

@[expose] public section
set_option maxRecDepth 16384
noncomputable section
namespace Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
variable {F : FTy → Type} [FloatOps F]
local notation "𝕄" => MT nD τ sig Unit (Elt F) ℕ (UR sig nD τ) ℕ

/-- Head `h`'s queries, as the kernel lays them out: 200 rows of 32. -/
def qv (x3 : Vec F S1x256x200 .bf16) : Fin 8 → Vec F S1x200x32 .bf16
  | 0 => k0_pay95 x3 | 1 => k0_pay96 x3 | 2 => k0_pay97 x3 | 3 => k0_pay98 x3
  | 4 => k0_pay99 x3 | 5 => k0_pay101 (k0_pay100 x3) | 6 => k0_pay102 (k0_pay94 x3) | 7 => k0_pay103 (k0_pay94 x3)

/-- The mask words, a row without any set bit replaced by all ones. -/
def wordsv (x6 : Vec F S1x200x512 .i32) : Vec F S200x512 .i32 := k0_pay104 x6

/-- The lanes' numbers. -/
def lanes : IVec S200x128 32 := iota .tc S200x128 32 [1] iota_S200x128_d1_w32

/-- Head `h`'s running maxima, sums and weighted values after `k` tiles, from the blocks the grid point is given. -/
def hstate (i : grid0.Coords) (x1 : Vec F S14x8 .f32) (x3 : Vec F S1x256x200 .bf16) (x4 x5 : Vec F S1x256x16384 .fp8e4m3) (x6 : Vec F S1x200x512 .i32) (h : Fin 8) (k : ℕ) :
    Vec F S1x200x128 .f32 × Vec F S1x200x128 .f32 × Vec F S1x200x32 .f32 :=
  hst i lanes x1 x4 x5 (wordsv x6) (qv x3) (View.ld (Val := Elt F) (e' := .f32) (k0_pay105 (F := F)) (rM h)) (View.ld (Val := Elt F) (e' := .f32) (k0_pay106 (F := F) (Scalar.ofBits .f32 0x00000000#32)) (rM h)) (View.ld (Val := Elt F) (e' := .f32) (k0_pay107 (F := F)) (rA h)) h k

/-- Where head `h`'s value scale lies at grid point `i`. -/
def offV (i : grid0.Coords) : Fin 8 → Fin 2 → ℕ
  | 0 => k0_off18 i | 1 => k0_off19 i | 2 => k0_off20 i | 3 => k0_off21 i
  | 4 => k0_off22 i | 5 => k0_off23 i | 6 => k0_off24 i | 7 => k0_off25 i

/-- Head `h`'s value scale lies at the grid point's image and at `h`. -/
theorem offV_eq (i : grid0.Coords) (h : Fin 8) : offV i h = ![(i 0).val, h.val] := by
  fin_cases h
  exacts [k0_off18_eq i, k0_off19_eq i, k0_off20_eq i, k0_off21_eq i, k0_off22_eq i, k0_off23_eq i, k0_off24_eq i, k0_off25_eq i]

/-- Every value scale lies in its array. -/
theorem offV_inb (i : grid0.Coords) (h : Fin 8) (a : Fin 2) : offV i h a + S1x1.size a ≤ S14x8.size a := by
  fin_cases h
  exacts [k0_off18_inb i a, k0_off19_inb i a, k0_off20_inb i a, k0_off21_inb i a, k0_off22_inb i a, k0_off23_inb i a, k0_off24_inb i a, k0_off25_inb i a]

/-- The place of head `h`'s value scale at grid point `i`. -/
def rV (i : grid0.Coords) (h : Fin 8) : Rect S14x8 := Rect.unit (offV i h) S1x1.size (offV_inb i h)
/-- The first 32 lanes of head `h`'s rows of the running sums. -/
def rL (h : Fin 8) : Rect S8x200x128 := Rect.unit ![h.val, 0, 0] S1x200x32.size (by revert h; decide)
/-- Head `h`'s columns of the result block. -/
def rO (h : Fin 8) : Rect S1x200x256 := Rect.unit ![0, 0, 32 * h.val] S1x200x32.size (by revert h; decide)

/-- One head's result: the weighted values over the sums, times the value scale. -/
def outH (a l : Vec F S1x200x32 .f32) (s : Elt F .f32) : Fin 8 → Vec F S1x200x32 .bf16
  | 0 => k0_pay109 a l s | 1 => k0_pay111 (k0_pay110 a) l s | 2 => k0_pay112 a l s | 3 => k0_pay114 (k0_pay113 a l s)
  | 4 => k0_pay115 a l s | 5 => k0_pay116 a l s | 6 => k0_pay1 (k0_pay117 a) l s | 7 => k0_pay2 a l s

/-- Every head's result is computed in the same way. -/
theorem outH_eq (a l : Vec F S1x200x32 .f32) (s : Elt F .f32) (h : Fin 8) : outH a l s h = k0_pay109 a l s := by
  fin_cases h <;> rfl

/-- The first 32 lanes of the running sums' rows. -/
def low32 (l : Vec F S1x200x128 .f32) : Vec F S1x200x32 .f32 :=
  fun x => l (Fin.cons (0 : Fin 1) (Fin.cons (x 1) (Fin.cons (⟨(x 2).val, lt_of_lt_of_le (x 2).isLt (by decide)⟩ : Fin 128) (fun z => z.elim0))))

/-- The result block of a grid point. -/
def outP (i : grid0.Coords) (x1 x2 : Vec F S14x8 .f32) (x3 : Vec F S1x256x200 .bf16) (x4 x5 : Vec F S1x256x16384 .fp8e4m3) (x6 : Vec F S1x200x512 .i32) (h : Fin 8) : Vec F S1x200x32 .bf16 :=
  outH (hstate i x1 x3 x4 x5 x6 h k0_t1_loop.trips).2.2 (low32 (hstate i x1 x3 x4 x5 x6 h k0_t1_loop.trips).2.1) (View.ld x2 (rV i h) (Shape.Idx.first (show 0 < S1x1.numel by decide))) h

/-- The element of a head's rows that a column of the result block names. -/
def inCol (y : S1x200x256.Idx) : S1x200x32.Idx :=
  Fin.cons (0 : Fin 1) (Fin.cons (y 1) (Fin.cons (⟨(y 2).val % 32, Nat.mod_lt _ (by decide)⟩ : Fin 32) (fun z => z.elim0)))

/-- The result block of a grid point. -/
def outv (i : grid0.Coords) (x1 x2 : Vec F S14x8 .f32) (x3 : Vec F S1x256x200 .bf16) (x4 x5 : Vec F S1x256x16384 .fp8e4m3) (x6 : Vec F S1x200x512 .i32) : Vec F S1x200x256 .bf16 :=
  fun y => outP i x1 x2 x3 x4 x5 x6 (⟨(y 2).val / 32, by have : (y 2).val < 256 := (y 2).isLt; omega⟩ : Fin 8) (inCol y)

/-- Eight stores, one to each head's columns, leave the result block that takes each column from its head's store. -/
theorem read_headsO {sp : Space} (v : View sig .tc sp S1x200x256 .bf16) (f : BufTy.Contents (Elt F) v.ty) (P : Fin 8 → S1x200x32.Idx → Elt F .bf16) :
    v.read (Elt F) (v.writes (Elt F) f (([7, 6, 5, 4, 3, 2, 1, 0] : List (Fin 8)).map fun h => (⟨rO h, P h⟩ : View.Piece (Elt F) S1x200x256 .bf16)))
      = fun y => P (⟨(y 2).val / 32, by have : (y 2).val < 256 := (y 2).isLt; omega⟩ : Fin 8) (inCol y) := by
  have hG : ∀ (h : Fin 8) (x : S1x200x32.Idx), P h x = P (⟨(((rO h).emb x) 2).val / 32, by have : (((rO h).emb x) 2).val < 256 := (((rO h).emb x) 2).isLt; omega⟩ : Fin 8) (inCol ((rO h).emb x)) := by
    intro h x
    have h0 : (x 0).val < 1 := (x 0).isLt
    have h2 : (x 2).val < 32 := (x 2).isLt
    have e2 : (((rO h).emb x) 2).val = 32 * h.val + (x 2).val := by
      show 32 * h.val + 1 * (x 2).val = _
      omega
    have e0 : (⟨(((rO h).emb x) 2).val / 32, by have : (((rO h).emb x) 2).val < 256 := (((rO h).emb x) 2).isLt; omega⟩ : Fin 8) = h := by
      apply Fin.ext
      show (((rO h).emb x) 2).val / 32 = h.val
      omega
    have e1 : (inCol ((rO h).emb x) : S1x200x32.Idx) = x := by
      funext a
      apply Fin.ext
      fin_cases a
      · show 0 = (x 0).val
        omega
      · show 0 + 1 * (x 1).val = (x 1).val
        omega
      · show (((rO h).emb x) 2).val % 32 = (x 2).val
        omega
    rw [e0, e1]
  funext y
  refine View.read_writes_apply_of_pieces (Val := Elt F) v f (G := fun y => P (⟨(y 2).val / 32, by have : (y 2).val < 256 := (y 2).isLt; omega⟩ : Fin 8) (inCol y)) _ ?_ y ?_
  · intro p hp x
    obtain ⟨h', _, rfl⟩ := List.mem_map.1 hp
    exact hG h' x
  · have hy : (y 2).val < 256 := (y 2).isLt
    have hy0 : (y 0).val < 1 := (y 0).isLt
    have hy1 : (y 1).val < 200 := (y 1).isLt
    refine ⟨⟨rO (⟨(y 2).val / 32, by omega⟩ : Fin 8), P _⟩, List.mem_map.2 ⟨_, ?_, rfl⟩, ?_⟩
    · generalize (⟨(y 2).val / 32, by omega⟩ : Fin 8) = h
      fin_cases h <;> decide
    · refine (Rect.mem_set_unit (s := S1x200x256) (inb := by intro a; fin_cases a <;> simp [Shape.size] <;> omega)).2 fun a => ?_
      fin_cases a
      · show 0 ≤ (y 0).val ∧ (y 0).val < 0 + 1
        omega
      · show 0 ≤ (y 1).val ∧ (y 1).val < 0 + 200
        omega
      · show 32 * ((y 2).val / 32) ≤ (y 2).val ∧ (y 2).val < 32 * ((y 2).val / 32) + 32
        omega

/-- The first 32 lanes of a head's rows, loaded directly. -/
theorem ld_rL (X : Vec F S8x200x128 .f32) (h : Fin 8) : View.ld (Val := Elt F) (e' := .f32) X (rL h) = low32 (View.ld (Val := Elt F) (e' := .f32) X (rM h)) := by
  funext x
  have h0 : (x 0).val < 1 := (x 0).isLt
  refine congrArg X (funext fun a => Fin.ext ?_)
  fin_cases a
  · show h.val + 1 * (x 0).val = h.val + 1 * 0
    omega
  · rfl
  · rfl

set_option maxHeartbeats 1000000 in
/-- The body keeps its six input blocks, leaves `outv` of them in the result's block, and gives the scratch buffers back. -/
theorem sound_kernel (c : Dev nD) (E : Set ℕ) (i : grid0.Coords) (arg1 : Memref sig .tc .smem S14x8 .f32) (harg1 : arg1.IsWhole) (arg2 : Memref sig .tc .smem S14x8 .f32) (harg2 : arg2.IsWhole) (arg3 : Memref sig .tc .vmem S1x256x200 .bf16) (harg3 : arg3.IsWhole) (arg4 : Memref sig .tc .vmem S1x256x16384 .fp8e4m3) (harg4 : arg4.IsWhole) (arg5 : Memref sig .tc .vmem S1x256x16384 .fp8e4m3) (harg5 : arg5.IsWhole) (arg6 : Memref sig .tc .vmem S1x200x512 .i32) (harg6 : arg6.IsWhole) (arg7 : Memref sig .tc .vmem S1x200x256 .bf16) (harg7 : arg7.IsWhole) (arg8 : Memref sig .tc .vmem S8x200x32 .bf16) (harg8 : arg8.IsWhole) (arg9 : Memref sig .tc .vmem S200x512 .i32) (harg9 : arg9.IsWhole) (arg10 : Memref sig .tc .vmem S200x512 .i32) (harg10 : arg10.IsWhole) (arg11 : Memref sig .tc .vmem S8x200x128 .f32) (harg11 : arg11.IsWhole) (arg12 : Memref sig .tc .vmem S8x200x128 .f32) (harg12 : arg12.IsWhole) (arg13 : Memref sig .tc .vmem S8x200x32 .f32) (harg13 : arg13.IsWhole)
    (x1 : Vec F S14x8 .f32) (x2 : Vec F S14x8 .f32) (x3 : Vec F S1x256x200 .bf16) (x4 : Vec F S1x256x16384 .fp8e4m3) (x5 : Vec F S1x256x16384 .fp8e4m3) (x6 : Vec F S1x200x512 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outv i x1 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_masked_xattn i arg1 harg1 arg2 harg2 arg3 harg3 arg4 harg4 arg5 harg5 arg6 harg6 arg7 harg7 arg8 harg8 arg9 harg9 arg10 harg10 arg11 harg11 arg12 harg12 arg13 harg13) K := by
  simp only [cc0_masked_xattn_eq_skeleton]; unfold cc0_masked_xattn_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have hq : (fun h => View.readAt (Elt F) arg8.view (rA h).toLoadRect (arg8.view.writes (Elt F) arg8.view.junk (sound_kernel.sl.H8_8 c arg3 f3))) = qv (arg3.view.read (Elt F) f3) := by
      have H8 : sound_kernel.sl.H8_8 c arg3 f3 = List.map (fun h => (⟨rA h, qv (View.readAt (Elt F) arg3.view (Rect.unit ![0, 0, 0] S1x256x200.size inb_S1x256x200_S1x256x200_0_0_0).toLoadRect f3) h⟩ : View.Piece (Elt F) S8x200x32 .bf16)) [7, 6, 5, 4, 3, 2, 1, 0] := rfl
      rw [H8, View.readAt_full]
      funext h
      exact readAt_headsA arg8.view _ _ h
    have hw : arg9.view.read (Elt F) (arg9.view.writes (Elt F) arg9.view.junk (sound_kernel.sl.H9_1 c arg6 f6)) = wordsv (arg6.view.read (Elt F) f6) := by
      refine (View.read_writes_full arg9.view _ _ _ _).trans ?_
      show k0_pay104 (View.readAt (Elt F) arg6.view (Rect.unit ![0, 0, 0] S1x200x512.size inb_S1x200x512_S1x200x512_0_0_0).toLoadRect f6) = _
      rw [View.readAt_full]
      rfl
    have hm (h : Fin 8) : View.readAt (Elt F) arg11.view (rM h).toLoadRect (arg11.view.writes (Elt F) arg11.view.junk sound_kernel.sl.H11_1) = View.ld (Val := Elt F) (e' := .f32) (k0_pay105 (F := F)) (rM h) := by
      rw [View.readAt_eq_ld]
      exact congrArg (fun X => View.ld (Val := Elt F) (e' := .f32) X (rM h)) (View.read_writes_full arg11.view _ _ _ _)
    have hl (h : Fin 8) : View.readAt (Elt F) arg12.view (rM h).toLoadRect (arg12.view.writes (Elt F) arg12.view.junk sound_kernel.sl.H12_1) = View.ld (Val := Elt F) (e' := .f32) (k0_pay106 (F := F) (Scalar.ofBits .f32 0x00000000#32)) (rM h) := by
      rw [View.readAt_eq_ld]
      exact congrArg (fun X => View.ld (Val := Elt F) (e' := .f32) X (rM h)) (View.read_writes_full arg12.view _ _ _ _)
    have ha (h : Fin 8) : View.readAt (Elt F) arg13.view (rA h).toLoadRect (arg13.view.writes (Elt F) arg13.view.junk sound_kernel.sl.H13_1) = View.ld (Val := Elt F) (e' := .f32) (k0_pay107 (F := F)) (rA h) := by
      rw [View.readAt_eq_ld]
      exact congrArg (fun X => View.ld (Val := Elt F) (e' := .f32) X (rA h)) (View.read_writes_full arg13.view _ _ _ _)

    have hpb := pb_read (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips le_rfl
    simp only [hq, hw, hm, hl, ha, ← View.writes_append] at hpb
    have hP (h : Fin 8) : outH (View.readAt (Elt F) arg13.view (rA h).toLoadRect (arg13.view.writes (Elt F) arg13.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.2 ++ sound_kernel.sl.H13_1)))
        (View.readAt (Elt F) arg12.view (rL h).toLoadRect (arg12.view.writes (Elt F) arg12.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.1 ++ sound_kernel.sl.H12_1)))
        (View.readAt (Elt F) arg2.view (rV i h).toLoadRect f2 (Shape.Idx.first (show 0 < S1x1.numel by decide))) h
        = outP i (arg1.view.read (Elt F) f1) (arg2.view.read (Elt F) f2) (arg3.view.read (Elt F) f3) (arg4.view.read (Elt F) f4) (arg5.view.read (Elt F) f5) (arg6.view.read (Elt F) f6) h := by
      rw [(hpb h).2.2, View.readAt_eq_ld arg12.view, ld_rL, ← View.readAt_eq_ld arg12.view, (hpb h).2.1]
      rfl

    refine Eq.trans (congrArg (fun L => arg7.view.read (Elt F) (arg7.view.writes (Elt F) f7 L)) (?_ : _ = List.map (fun h => (⟨rO h, outH (View.readAt (Elt F) arg13.view (rA h).toLoadRect (arg13.view.writes (Elt F) arg13.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.2 ++ sound_kernel.sl.H13_1)))
        (View.readAt (Elt F) arg12.view (rL h).toLoadRect (arg12.view.writes (Elt F) arg12.view.junk ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (Scalar.ofBits .f32 0x00000000#32) lanes f1 f4 f5 (arg8.view.writes (Elt F) arg8.view.junk (sound_kernel.sl.H8_8 c arg3 f3)) (arg9.view.writes (Elt F) arg9.view.junk (sound_kernel.sl.H9_1 c arg6 f6)) f10 (arg11.view.writes (Elt F) arg11.view.junk sound_kernel.sl.H11_1) (arg12.view.writes (Elt F) arg12.view.junk sound_kernel.sl.H12_1) (arg13.view.writes (Elt F) arg13.view.junk sound_kernel.sl.H13_1) k0_t1_loop.trips).2.2.1 ++ sound_kernel.sl.H12_1)))
        (View.readAt (Elt F) arg2.view (rV i h).toLoadRect f2 (Shape.Idx.first (show 0 < S1x1.numel by decide))) h⟩ : View.Piece (Elt F) S1x200x256 .bf16)) [7, 6, 5, 4, 3, 2, 1, 0])) ?_
    · rfl
    refine (read_headsO (F := F) arg7.view f7 _).trans ?_
    funext y
    exact congrFun (hP _) _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl
end Cert.Kernel.Step
end
-- ==== Proof.Bits.Run.lean ====
module

public import proofs.«01_k».proof.Proof.Bits.Body
public import Idealize.ShloMosaic.Lib.Memref
public import Idealize.ShloMosaic.Lib.Claim

@[expose] public section
set_option maxRecDepth 16384
noncomputable section
namespace Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The pipeline's proof data on core `c`: the arrays as the region finds them; after the body at point `t` each input's buffer
    at its block and the output's at `outv` of the input blocks; the scratch buffers at any contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (grid0.coords t) (iblk m c 0 t) (iblk m c 1 t) (iblk m c 2 t) (iblk m c 3 t) (iblk m c 4 t) (iblk m c 5 t)
  Φ _ := Pipeline.ΦA spec0 c
  q _ := fullShare
  owed _ := 0

/-- Every window's array is as the region finds it. -/
theorem A_eq (c : Dev nD) (w : Fin cfg0.W) : (dats m 0 c).A w = V m c (Pipeline.arrRef spec0 w) := by dsimp only [dats]
/-- The body leaves input window 0's block in its buffer, -/
theorem after0_0 (c : Dev nD) (t : Fin cfg0.N) : (dats m 0 c).after 0 t = iblk m c 0 t := by dsimp only [dats]
/-- which held that block when the body began. -/
theorem before0_0 (c : Dev nD) (t : Fin cfg0.N) (d) : (dats m 0 c).before 0 t d = iblk m c 0 t := before0_0_of m (dats m 0 c) (A_eq m c 0) (after0_0 m c) t d
/-- The body leaves input window 1's block in its buffer, -/
theorem after0_1 (c : Dev nD) (t : Fin cfg0.N) : (dats m 0 c).after 1 t = iblk m c 1 t := by dsimp only [dats]
/-- which held that block when the body began. -/
theorem before0_1 (c : Dev nD) (t : Fin cfg0.N) (d) : (dats m 0 c).before 1 t d = iblk m c 1 t := before0_1_of m (dats m 0 c) (A_eq m c 1) (after0_1 m c) t d
/-- The body leaves input window 2's block in its buffer, -/
theorem after0_2 (c : Dev nD) (t : Fin cfg0.N) : (dats m 0 c).after 2 t = iblk m c 2 t := by dsimp only [dats]
/-- which held that block when the body began. -/
theorem before0_2 (c : Dev nD) (t : Fin cfg0.N) (d) : (dats m 0 c).before 2 t d = iblk m c 2 t := before0_2_of m (dats m 0 c) (A_eq m c 2) (after0_2 m c) t d
/-- The body leaves input window 3's block in its buffer, -/
theorem after0_3 (c : Dev nD) (t : Fin cfg0.N) : (dats m 0 c).after 3 t = iblk m c 3 t := by dsimp only [dats]
/-- which held that block when the body began. -/
theorem before0_3 (c : Dev nD) (t : Fin cfg0.N) (d) : (dats m 0 c).before 3 t d = iblk m c 3 t := before0_3_of m (dats m 0 c) (A_eq m c 3) (after0_3 m c) t d
/-- The body leaves input window 4's block in its buffer, -/
theorem after0_4 (c : Dev nD) (t : Fin cfg0.N) : (dats m 0 c).after 4 t = iblk m c 4 t := by dsimp only [dats]
/-- which held that block when the body began. -/
theorem before0_4 (c : Dev nD) (t : Fin cfg0.N) (d) : (dats m 0 c).before 4 t d = iblk m c 4 t := before0_4_of m (dats m 0 c) (A_eq m c 4) (after0_4 m c) t d
/-- The body leaves input window 5's block in its buffer, -/
theorem after0_5 (c : Dev nD) (t : Fin cfg0.N) : (dats m 0 c).after 5 t = iblk m c 5 t := by dsimp only [dats]
/-- which held that block when the body began. -/
theorem before0_5 (c : Dev nD) (t : Fin cfg0.N) (d) : (dats m 0 c).before 5 t d = iblk m c 5 t := before0_5_of m (dats m 0 c) (A_eq m c 5) (after0_5 m c) t d
/-- The body leaves `outv` of the input blocks in the result's buffer. -/
theorem after0_6 (c : Dev nD) (t : Fin cfg0.N) : (dats m 0 c).after 6 t = outv (grid0.coords t) (iblk m c 0 t) (iblk m c 1 t) (iblk m c 2 t) (iblk m c 3 t) (iblk m c 4 t) (iblk m c 5 t) := by dsimp only [dats]

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, and the scratch buffers are lent to the body and come back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨⟨%g0, G0⟩, ⟨%g1, G1⟩, ⟨%g2, G2⟩, ⟨%g3, G3⟩, ⟨%g4, G4⟩, ⟨%g5, G5⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G0]; · iexists g0; iexact G0
  isplitl [G1]; · iexists g1; iexact G1
  isplitl [G2]; · iexists g2; iexact G2
  isplitl [G3]; · iexists g3; iexact G3
  isplitl [G4]; · iexists g4; iexact G4
  isplitl [G5]; · iexists g5; iexact G5
  iintro ⟨H0, H1, H2, H3, H4, H5, H6, ⟨%e0, G0⟩, ⟨%e1, G1⟩, ⟨%e2, G2⟩, ⟨%e3, G3⟩, ⟨%e4, G4⟩, ⟨%e5, G5⟩⟩
  isplitl [G0 G1 G2 G3 G4 G5 Hr]
  · isplitr [Hr]
    · isplitl [G0]; · iexists e0; iexact G0
      isplitl [G1]; · iexists e1; iexact G1
      isplitl [G2]; · iexists e2; iexact G2
      isplitl [G3]; · iexists e3; iexact G3
      isplitl [G4]; · iexists e4; iexact G4
      iexists e5; iexact G5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body's triple, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with every array at what the proof data computes and with every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Step
end
-- ==== Proof.Math.lean ====
module

public import Idealize.ShloMosaic.PureOps.Ideal
public import Mathlib.Data.EReal.Inv
public import Mathlib.Data.EReal.Operations
public import Mathlib.Analysis.SpecialFunctions.Pow.Real

@[expose] public section
noncomputable section
namespace Cert.Softmax
open Idealize.ShloMosaic

/-! Softmax averages over the extended reals: the running form, tile by tile and in base two, and the direct form. -/

/-- A nonnegative real factor goes into a finite sum. -/
theorem sum_mul_real {ι : Type*} (T : Finset ι) (f : ι → EReal) {r : EReal} (h0 : 0 ≤ r) (h1 : r ≠ ⊤) :
    (∑ p ∈ T, f p) * r = ∑ p ∈ T, f p * r := by
  classical
  induction T using Finset.induction_on with
  | empty => simp
  | insert a T ha ih =>
    rw [Finset.sum_insert ha, Finset.sum_insert ha, EReal.right_distrib_of_nonneg_of_ne_top h0 h1, ih]

/-- Anything less plus infinity is minus infinity. -/
theorem sub_top (x : EReal) : x - ⊤ = ⊥ := by
  rw [sub_eq_add_neg, EReal.neg_top, EReal.add_bot]

/-- Minus infinity less anything is minus infinity. -/
theorem bot_sub (x : EReal) : (⊥ : EReal) - x = ⊥ := by
  rw [sub_eq_add_neg, EReal.bot_add]

/-- The power of two vanishes at minus infinity. -/
@[simp] theorem exp2_bot : Ideal.exp2 ⊥ = 0 := rfl
/-- The exponential vanishes at minus infinity. -/
@[simp] theorem exp_bot : Ideal.exp ⊥ = 0 := rfl
/-- The power of two of a real number. -/
theorem exp2_coe (r : ℝ) : Ideal.exp2 (r : EReal) = ((Real.rpow 2 r : ℝ) : EReal) := rfl
/-- The exponential of a real number. -/
theorem exp_coe (r : ℝ) : Ideal.exp (r : EReal) = ((Real.exp r : ℝ) : EReal) := rfl

/-- The weight of an entry whose score is `s`, against the maximum `m`. -/
def w (a : Prop) [Decidable a] (s m : EReal) : EReal := if a then Ideal.exp2 (s - m) else 0

/-- Against an infinite maximum every weight is zero. -/
theorem w_top (a : Prop) [Decidable a] (s : EReal) : w a s ⊤ = 0 := by
  unfold w; split_ifs <;> simp [sub_top]

/-- Passing from one maximum to a later one scales a weight. -/
theorem w_scale (a : Prop) [Decidable a] (s : EReal) (m m' : ℝ) (hs : a → s ≤ m) :
    w a s m * Ideal.exp2 ((m : EReal) - m') = w a s m' := by
  unfold w
  split_ifs with ha
  · induction s using EReal.rec with
    | bot => simp [bot_sub]
    | top => exact absurd (hs ha) (by simp)
    | coe r =>
      rw [← EReal.coe_sub, ← EReal.coe_sub, ← EReal.coe_sub, exp2_coe, exp2_coe, exp2_coe, ← EReal.coe_mul]
      congr 1
      show (2 : ℝ) ^ (r - m) * (2 : ℝ) ^ (m - m') = (2 : ℝ) ^ (r - m')
      rw [← Real.rpow_add (by norm_num)]; congr 1; ring
  · simp

/-- A power of two is not negative. -/
theorem exp2_nonneg (x : EReal) : 0 ≤ Ideal.exp2 x := by
  induction x using EReal.rec with
  | bot => simp
  | top => exact le_top
  | coe r => rw [exp2_coe]; exact_mod_cast (Real.rpow_pos_of_pos (by norm_num) r).le

/-- Passing from one maximum to a later one scales a weighted sum, also where the later maximum is infinite. -/
theorem sum_scale {ι : Type*} (T : Finset ι) (a : ι → Prop) [DecidablePred a] (s v : ι → EReal) {N m m' : EReal}
    (hN : N ≠ ⊥) (hNm : N ≤ m) (hm : m ≤ m') (hs : ∀ p ∈ T, a p → s p ≤ m) :
    (∑ p ∈ T, w (a p) (s p) m * v p) * Ideal.exp2 (m - m') = ∑ p ∈ T, w (a p) (s p) m' * v p := by
  have hb : m ≠ ⊥ := fun h => hN (le_bot_iff.1 (h ▸ hNm))
  induction m' using EReal.rec with
  | bot => exact absurd (le_bot_iff.1 hm) hb
  | top => simp [sub_top, w_top]
  | coe r' =>
    induction m using EReal.rec with
    | bot => exact absurd rfl hb
    | top => exact absurd hm (by simp)
    | coe r =>
      rw [sum_mul_real _ _ (exp2_nonneg _) (by rw [← EReal.coe_sub, exp2_coe]; exact EReal.coe_ne_top _)]
      refine Finset.sum_congr rfl fun p hp => ?_
      rw [mul_right_comm, w_scale (a p) (s p) r r' (hs p hp)]

/-- What the running maximum `m`, sum `l` and weighted value `A` are after the first `n` entries. -/
structure Inv (N : EReal) (a : ℕ → Prop) [DecidablePred a] (s v : ℕ → EReal) (n : ℕ) (m l A : EReal) : Prop where
  low : N ≤ m
  above : ∀ p < n, a p → s p ≤ m
  least : ∀ x, N ≤ x → (∀ p < n, a p → s p ≤ x) → m ≤ x
  sum : l = ∑ p ∈ Finset.range n, w (a p) (s p) m
  acc : A = ∑ p ∈ Finset.range n, w (a p) (s p) m * v p

variable {N : EReal} {a : ℕ → Prop} [DecidablePred a] {s v : ℕ → EReal} {n : ℕ} {m l A : EReal}

/-- Before any entry. -/
theorem Inv.init : Inv N a s v 0 N 0 0 :=
  ⟨le_rfl, fun _ h => absurd h (by omega), fun _ h _ => h, by simp, by simp⟩

/-- One tile of `t` entries carries the running values on. -/
theorem Inv.step (hN : N ≠ ⊥) (h : Inv N a s v n m l A) (t : ℕ) {m' : EReal}
    (hm' : m' = max m ((Finset.univ : Finset (Fin t)).fold max ⊥ fun p => if a (n + p.val) then s (n + p.val) else N)) :
    Inv N a s v (n + t) m'
      (l * Ideal.exp2 (m - m') + ∑ p : Fin t, w (a (n + p.val)) (s (n + p.val)) m')
      (A * Ideal.exp2 (m - m') + ∑ p : Fin t, w (a (n + p.val)) (s (n + p.val)) m' * v (n + p.val)) := by
  have hmm : m ≤ m' := hm' ▸ le_max_left _ _
  have h1 : ∀ f : ℕ → EReal, (∑ p ∈ Finset.range (n + t), f p) = (∑ p ∈ Finset.range n, f p) + ∑ p : Fin t, f (n + p.val) :=
    fun f => by rw [Finset.sum_range_add, Finset.sum_range (fun p => f (n + p))]
  refine ⟨h.low.trans hmm, fun p hp ha => ?_, fun x hx hs => ?_, ?_, ?_⟩
  · by_cases hpn : p < n
    · exact (h.above p hpn ha).trans hmm
    · rw [hm']
      refine le_max_of_le_right (Finset.le_fold_max _ |>.2 (.inr ⟨⟨p - n, by omega⟩, Finset.mem_univ _, ?_⟩))
      have : n + (p - n) = p := by omega
      simp only [this, if_pos ha, le_refl]
  · rw [hm']
    refine max_le (h.least x hx fun p hp => hs p (by omega)) ((Finset.fold_max_le _).2 ⟨bot_le, fun p _ => ?_⟩)
    split_ifs with ha
    · exact hs _ (by omega) ha
    · exact hx
  · rw [h1, h.sum]
    have := sum_scale (Finset.range n) a s (fun _ => 1) hN h.low hmm fun p hp => h.above p (Finset.mem_range.1 hp)
    simp only [mul_one] at this
    rw [this]
  · rw [h1, h.acc, sum_scale (Finset.range n) a s v hN h.low hmm fun p hp => h.above p (Finset.mem_range.1 hp)]

/-- A common positive real factor leaves a quotient alone. -/
theorem div_scale (x y : EReal) {k : ℝ} (hk : 0 < k) : Ideal.div (x * k) (y * k) = Ideal.div x y := by
  have hk0 : (k : EReal) ≠ 0 := by exact_mod_cast hk.ne'
  have hkp : (0 : EReal) < k := by exact_mod_cast hk
  unfold Ideal.div
  by_cases hy : y = 0
  · have : (0 < x * k) ↔ 0 < x := by
      rw [EReal.mul_pos_iff]
      exact ⟨fun h => h.elim And.left fun h => absurd (h.2.trans hkp) (lt_irrefl _), fun h => .inl ⟨h, hkp⟩⟩
    simp [hy, this]
  · rw [if_neg (mul_ne_zero hy hk0), if_neg hy, EReal.mul_inv, mul_assoc, mul_left_comm (k : EReal), ← mul_assoc]
    have : (k : EReal) * (k : EReal)⁻¹ = 1 := by
      rw [← EReal.coe_inv, ← EReal.coe_mul, mul_inv_cancel₀ hk.ne', EReal.coe_one]
    rw [this, mul_one]

/-- The quotient of the running sums after all entries is the softmax average: `c` is the factor between the two
    bases, and `M` is the largest admitted score. -/
theorem Inv.quot {c : ℝ} (hc : c = (Real.log 2)⁻¹) {s' : ℕ → EReal} {Nr : ℝ} (hN : N = Nr) (h : Inv N a s v n m l A)
    (hs : ∀ p < n, s p = s' p * c) {M : EReal} (hM : ∀ p < n, a p → s' p ≤ M)
    (hM' : ∀ x, (∀ p < n, a p → s' p ≤ x) → M ≤ x) :
    Ideal.div A l =
      Ideal.div (∑ p ∈ Finset.range n, (if a p then Ideal.exp (s' p - M) else 0) * v p)
        (∑ p ∈ Finset.range n, if a p then Ideal.exp (s' p - M) else 0) := by
  have hl2 : 0 < Real.log 2 := Real.log_pos (by norm_num)
  have hcp : 0 < c := hc ▸ inv_pos.2 hl2
  have hmb : m ≠ ⊥ := fun hb => by have := h.low; rw [hb, hN] at this; exact absurd this (by simp)
  rw [h.acc, h.sum]
  induction M using EReal.rec with
  | bot =>
    have e1 : ∀ p ∈ Finset.range n, w (a p) (s p) m = 0 := fun p hp => by
      unfold w; split_ifs with ha
      · have h0 := le_bot_iff.1 (hM p (Finset.mem_range.1 hp) ha)
        rw [hs p (Finset.mem_range.1 hp), h0, EReal.bot_mul_coe_of_pos hcp, bot_sub, exp2_bot]
      · rfl
    have e2 : ∀ p ∈ Finset.range n, (if a p then Ideal.exp (s' p - ⊥) else 0) = 0 := fun p hp => by
      split_ifs with ha
      · have h0 := le_bot_iff.1 (hM p (Finset.mem_range.1 hp) ha)
        rw [h0, bot_sub, exp_bot]
      · rfl
    rw [Finset.sum_eq_zero e1, Finset.sum_eq_zero e2, Finset.sum_eq_zero fun p hp => by rw [e1 p hp, zero_mul],
      Finset.sum_eq_zero fun p hp => by rw [e2 p hp, zero_mul]]
  | top =>
    have hmt : m = ⊤ := by
      by_contra hne
      have hlt : m < ⊤ := lt_of_le_of_ne le_top hne
      lift m to ℝ using ⟨hne, hmb⟩
      have := hM' ((m / c : ℝ) : EReal) fun p hp ha => by
        have h1 := h.above p hp ha
        rw [hs p hp] at h1
        generalize s' p = x at h1
        induction x using EReal.rec with
        | bot => exact bot_le
        | top => rw [EReal.top_mul_coe_of_pos hcp] at h1; exact absurd h1 (by simp)
        | coe r =>
          rw [← EReal.coe_mul] at h1
          have h1' : r * c ≤ m := by exact_mod_cast h1
          exact_mod_cast (le_div_iff₀ hcp).2 h1'
      exact absurd this (by simp)
    subst hmt
    simp [w_top, sub_top]
  | coe M =>
    have hs' : ∀ p < n, a p → s' p = ⊥ ∨ ∃ r : ℝ, s' p = r := fun p hp ha => by
      have h1 := hM p hp ha
      generalize s' p = x at h1
      induction x using EReal.rec with
      | bot => exact .inl rfl
      | top => exact absurd h1 (by simp)
      | coe r => exact .inr ⟨r, rfl⟩
    have hmt : m ≠ ⊤ := fun ht => by
      have := h.least ((max Nr (M * c) : ℝ) : EReal) (by rw [hN]; exact_mod_cast le_max_left _ _) fun p hp ha => by
        rw [hs p hp]
        rcases hs' p hp ha with h0 | ⟨r, h0⟩
        · rw [h0, EReal.bot_mul_coe_of_pos hcp]; exact bot_le
        · have h1 := hM p hp ha
          rw [h0] at h1 ⊢
          have h1' : r ≤ M := by exact_mod_cast h1
          rw [← EReal.coe_mul]
          exact_mod_cast le_max_of_le_right (mul_le_mul_of_nonneg_right h1' hcp.le)
      rw [ht] at this
      exact absurd this (by simp)
    lift m to ℝ using ⟨hmt, hmb⟩
    have key : ∀ p ∈ Finset.range n, w (a p) (s p) m =
        (if a p then Ideal.exp (s' p - M) else 0) * ((Real.exp (M - m * Real.log 2) : ℝ) : EReal) := fun p hp => by
      unfold w; split_ifs with ha
      · rw [hs p (Finset.mem_range.1 hp)]
        rcases hs' p (Finset.mem_range.1 hp) ha with h0 | ⟨r, h0⟩
        · rw [h0, EReal.bot_mul_coe_of_pos hcp, bot_sub, bot_sub]; simp
        · rw [h0, ← EReal.coe_mul, ← EReal.coe_sub, ← EReal.coe_sub, exp2_coe, exp_coe, ← EReal.coe_mul]
          congr 1
          show (2 : ℝ) ^ (r * c - m) = _
          rw [Real.rpow_def_of_pos (by norm_num), ← Real.exp_add]
          congr 1
          rw [hc]; field_simp; ring
      · rw [zero_mul]
    rw [Finset.sum_congr rfl key, Finset.sum_congr rfl fun p hp => by rw [key p hp, mul_right_comm],
      ← sum_mul_real _ _ (by exact_mod_cast (Real.exp_pos _).le) (EReal.coe_ne_top _),
      ← sum_mul_real _ _ (by exact_mod_cast (Real.exp_pos _).le) (EReal.coe_ne_top _), div_scale _ _ (Real.exp_pos _)]

end Cert.Softmax
end
-- ==== Proof.Words.lean ====
module

public import Idealize.ShloMosaic.PureOps.Vector
public import Idealize.ShloMosaic.Lib.PointwiseCore
public import Idealize.ShloMosaic.Lib.Pointwise
public import Mathlib.Data.Finset.Fold
public import Mathlib.Data.Fintype.Basic

@[expose] public section
noncomputable section
namespace Cert.Words
open Idealize.ShloMosaic

/-! The mask: 512 words of 32 bits for a row of 16384 pixels, a row without any bit admitting every pixel. -/

/-- Pixel `p` of a row with mask words `row` is admitted. -/
def Allowed (row : Fin 512 → BitVec 32) (p : ℕ) : Prop :=
  (∀ x, row x = 0#32) ∨ (row ⟨p / 32 % 512, Nat.mod_lt _ (by decide)⟩).getLsbD (p % 32) = true

/-- Whether a query may look at a pixel is decidable. -/
instance (row : Fin 512 → BitVec 32) : DecidablePred (Allowed row) := fun _ => by unfold Allowed; infer_instance

/-- The largest of words that are 0 or 1 is 0 exactly when all are 0. -/
theorem fold_max (row : Fin 512 → BitVec 32) (T : Finset (Fin 512)) :
    T.fold IntOp.maxsi 2147483648#32 (fun x => Scalar.select (IntOp.cmpi .ne (row x) 0#32) 1#32 0#32)
      = if T = ∅ then 2147483648#32 else if ∀ x ∈ T, row x = 0#32 then 0#32 else 1#32 := by
  classical
  induction T using Finset.induction_on with
  | empty => simp
  | insert a T ha ih =>
    rw [Finset.fold_insert ha, ih]
    have h1 : Scalar.select (IntOp.cmpi .ne (row a) 0#32) 1#32 0#32 = if row a = 0#32 then 0#32 else 1#32 := by
      unfold Scalar.select IntOp.cmpi
      by_cases h : row a = 0#32
      · simp [h]
      · have : (row a != 0#32) = true := by simpa using h
        simp [this, h]
    rw [h1]
    simp only [Finset.insert_ne_empty, if_false, Finset.forall_mem_insert]
    by_cases hT : T = ∅
    · subst hT
      by_cases h : row a = 0#32 <;> simp [h] <;> rfl
    · by_cases h : row a = 0#32 <;> by_cases h2 : ∀ x ∈ T, row x = 0#32
      · rw [if_pos h, if_neg hT, if_pos h2, if_pos ⟨h, h2⟩]; rfl
      · rw [if_pos h, if_neg hT, if_neg h2, if_neg fun h' => h2 h'.2]; rfl
      · rw [if_neg h, if_neg hT, if_pos h2, if_neg fun h' => h h'.1]; rfl
      · rw [if_neg h, if_neg hT, if_neg h2, if_neg fun h' => h h'.1]; rfl

/-- The kernel's mask word: all ones in a row without any bit. -/
def word (row : Fin 512 → BitVec 32) (x : Fin 512) : BitVec 32 := if ∀ x, row x = 0#32 then 4294967295#32 else row x

/-- The kernel computes the mask word by a maximum over the row and a selection. -/
theorem word_eq (row : Fin 512 → BitVec 32) (x : Fin 512) :
    Scalar.select (IntOp.cmpi .eq (Finset.univ.fold IntOp.maxsi 2147483648#32
        (fun x => Scalar.select (IntOp.cmpi .ne (row x) 0#32) 1#32 0#32)) 0#32) 4294967295#32 (row x) = word row x := by
  rw [fold_max, if_neg (Finset.univ_nonempty.ne_empty)]
  unfold word
  by_cases h : ∀ x, row x = 0#32
  · rw [if_pos (fun x _ => h x), if_pos h]; rfl
  · rw [if_neg (fun h' => h fun x => h' x (Finset.mem_univ x)), if_neg h]; rfl

/-- A bit of the mask word says whether the query may look at the pixel. -/
theorem word_bit (row : Fin 512 → BitVec 32) (x : Fin 512) {s : ℕ} (hs : s < 32) :
    (word row x).getLsbD s = true ↔ (∀ x, row x = 0#32) ∨ (row x).getLsbD s = true := by
  unfold word
  by_cases h : ∀ x, row x = 0#32
  · simp only [h, implies_true, if_true, true_or, iff_true]
    have : ∀ s : Fin 32, (4294967295#32).getLsbD s.val = true := by decide
    exact this ⟨s, hs⟩
  · simp [h]

/-- A word shifted so that bit `s` becomes its sign is negative exactly when the bit is set. -/
theorem neg_shift (W : BitVec 32) {s : ℕ} (hs : s < 32) :
    IntOp.cmpi .slt (IntOp.shli .vector W (BitVec.ofNat 32 (31 - s))) 0#32 = BitVec.ofBool (W.getLsbD s) := by
  have h1 : (BitVec.ofNat 32 (31 - s)).toNat = 31 - s := by rw [BitVec.toNat_ofNat]; omega
  unfold IntOp.cmpi IntOp.shli
  rw [if_pos (by rw [h1]; omega)]
  show BitVec.ofBool (BitVec.slt _ _) = _
  rw [BitVec.slt_zero_eq_msb, BitVec.shiftLeft_eq', h1, BitVec.msb_shiftLeft, BitVec.getMsbD_eq_getLsbD]
  have h2 : 32 - 1 - (31 - s) = s := by omega
  have h3 : 31 - s < 32 := by omega
  rw [h2, decide_eq_true h3, Bool.true_and]

/-- A word shifted down by `s` and masked to one bit is not zero exactly when bit `s` is set. -/
theorem low_shift (W : BitVec 32) {s : ℕ} (hs : s < 32) :
    IntOp.cmpi .ne (IntOp.andi (IntOp.shrui .host W (BitVec.ofNat 32 s)) 1#32) 0#32 = BitVec.ofBool (W.getLsbD s) := by
  have h1 : (BitVec.ofNat 32 s).toNat = s := by rw [BitVec.toNat_ofNat]; omega
  unfold IntOp.cmpi IntOp.shrui IntOp.andi
  rw [if_pos (by rw [h1]; omega)]
  show BitVec.ofBool (_ != _) = _
  rw [BitVec.ushiftRight_eq', h1, BitVec.and_one_eq_setWidth_ofBool_getLsbD, BitVec.getLsbD_ushiftRight, Nat.add_zero]
  cases W.getLsbD s <;> rfl

end Cert.Words
end
-- ==== Proof.Consts.lean ====
module

public import Idealize.ShloMosaic.PureOps.Ideal

@[expose] public section
noncomputable section
namespace Cert.Consts
open Idealize.ShloMosaic

/-- The score of an excluded pixel is a real number. -/
theorem neg_real : ∃ r : ℝ, Ideal.ofBits .f32 0xF149F2CA#32 = (r : EReal) := by
  simp only [Ideal.ofBits]
  exact ⟨-(13234890 * 2 ^ 76), by simp [Ideal.ieee, -EReal.coe_mul]⟩

/-- The pattern of minus infinity denotes minus infinity. -/
theorem ofBits_neg_inf : Ideal.ofBits .f32 0xFF800000#32 = ⊥ := by
  simp [Ideal.ofBits, Ideal.ieee]

end Cert.Consts
end
-- ==== Proof.StepValue.lean ====
module

public import proofs.«01_k».proof.Proof.Body
public import proofs.«01_k».proof.Proof.Math
public import proofs.«01_k».proof.Proof.Words
public import proofs.«01_k».proof.Proof.Consts
public import Idealize.ShloMosaic.Lib.Pointwise

@[expose] public section
set_option maxRecDepth 16384
noncomputable section
namespace Cert.KernelIdeal.Step
open Idealize.ShloMosaic Idealize.ShloMosaic.TcCoe
open Cert.KernelIdeal.Gen

/-- The score of an excluded pixel. -/
def NEG : EReal := Ideal.ofBits .f32 0xF149F2CA#32

/-- The kernel's constant `log2 e` is `1 / log 2`. -/
theorem log2e : Named.named (F := Ideal) Cert.KernelIdeal.κ "log2e" (φ := .f32) 0x3FB8AA3B#32 = (((Real.log 2)⁻¹ : ℝ) : EReal) :=
  IdealRules.named_const.ideal_named_scalar _ _ _ _ rfl

/-- A selection by a decided condition. -/
theorem select_dec {α : Type} (P : Prop) [Decidable P] (x y : α) : Scalar.select (BitVec.ofBool (decide P)) x y = if P then x else y := by
  unfold Scalar.select
  by_cases h : P <;> simp [h]

variable {mask : Vec Ideal S200x512 .i32} {r : Fin 200} {P : Fin 512 → Prop} [DecidablePred P]

/-- The masked scores of one head and tile, element by element. -/
theorem scores_at (hP : ∀ x, IntOp.cmpi .slt (mask (ix2 r x)) 0#32 = BitVec.ofBool (decide (P x)))
    (kt : Vec Ideal S1x32x512 .fp8e4m3) (q : Vec Ideal S1x200x32 .bf16) (cs : Elt Ideal .f32) (p : Fin 512) :
    scores kt q cs mask (ix2 r p) = if P p then
      (∑ x, q (ix3 0 r x) * kt (ix3 0 x p)) * ((cs : EReal) * (((Real.log 2)⁻¹ : ℝ) : EReal)) else NEG := by
  pointwise [scores, k0_pay10]
  rw [hP, select_dec, log2e]
  rfl

variable {sc : FVec Ideal S200x512 .f32} {m : Vec Ideal S1x200x128 .f32}

/-- The largest of the running maximum and a tile's scores. -/
def rowMax (sc : FVec Ideal S200x512 .f32) (r : Fin 200) (m : EReal) : EReal :=
  max m (Finset.univ.fold max ⊥ fun x : Fin 512 => sc (ix2 r x))

/-- The new running maximum, element by element. -/
theorem newM_at (j : Fin 128) : newM sc m (ix3 0 r j) = rowMax sc r (m (ix3 0 r j)) := by
  pointwise [newM, k0_pay15, k0_pay12, k0_pay11]
  rw [Consts.ofBits_neg_inf]
  rfl

variable (hP : ∀ x, IntOp.cmpi .slt (mask (ix2 r x)) 0#32 = BitVec.ofBool (decide (P x)))
include hP

/-- The new running sum, element by element. -/
theorem newL_at (l : Vec Ideal S1x200x128 .f32) (j : Fin 128) (hm : m (ix3 0 r 0) = m (ix3 0 r j)) :
    newL sc mask m l (ix3 0 r j) = l (ix3 0 r j) * Ideal.exp2 (m (ix3 0 r j) - rowMax sc r (m (ix3 0 r j)))
      + ∑ x, Softmax.w (P x) (sc (ix2 r x)) (rowMax sc r (m (ix3 0 r j))) := by
  pointwise [newL, k0_pay16, k0_pay14, k0_pay13, k0_pay12, k0_pay11]
  simp only [hP, select_dec, Consts.ofBits_neg_inf, hm]
  rfl

/-- The new accumulator, element by element. -/
theorem newA_at (vt : Vec Ideal S1x32x512 .fp8e4m3) (a : Vec Ideal S1x200x32 .f32) (d : Fin 32) {M : EReal} (hm : ∀ j, m (ix3 0 r j) = M) :
    newA sc mask vt m a (ix3 0 r d) = a (ix3 0 r d) * Ideal.exp2 (M - rowMax sc r M)
      + ∑ x, Softmax.w (P x) (sc (ix2 r x)) (rowMax sc r M) * vt (ix3 0 d x) := by
  pointwise [newA, k0_pay18, k0_pay9, k0_pay17, k0_pay14, k0_pay13, k0_pay12, k0_pay11]
  simp only [hP, select_dec, Consts.ofBits_neg_inf, hm]
  refine congrArg₂ (· + ·) rfl (Finset.sum_congr rfl fun x _ => ?_)
  unfold Softmax.w
  split_ifs
  · rfl
  · exact (zero_mul _).symm

omit hP

/-- The stored result, element by element. -/
theorem out_at (a l : Vec Ideal S1x200x32 .f32) (s : Elt Ideal .f32) (r : Fin 200) (d : Fin 32) :
    k0_pay109 (F := Ideal) a l s (ix3 0 r d) = Ideal.div (a (ix3 0 r d)) (l (ix3 0 r d)) * s := by
  pointwise [k0_pay109]

/-- Row `r` of an image's mask words. -/
def row (x6 : Vec Ideal S1x200x512 .i32) (r : Fin 200) (x : Fin 512) : BitVec 32 := x6 (ix3 0 r x)

/-- The kernel's mask words. -/
theorem words_at (x6 : Vec Ideal S1x200x512 .i32) (r : Fin 200) (j : Fin 512) : wordsv x6 (ix2 r j) = Words.word (row x6 r) j := by
  pointwise [wordsv, k0_pay104]
  exact Words.word_eq (row x6 r) j

/-- Which of the 128 words of its block a lane of the tile reads. -/
def gIdx (base lane plus : BitVec 32) : BitVec 32 :=
  let i := IntOp.addi (IntOp.addi (IntOp.shrsi .vector lane 5#32) (Scalar.andi base 127#32)) plus
  Scalar.select (IntOp.cmpi .slt i 0#32) (IntOp.addi i 128#32) i

/-- The word that a lane of the tile reads. -/
theorem gIdx_eq (k : Fin 32) (j : Fin 128) (c : Fin 4) :
    (gIdx (Scalar.muli (Scf.iv 0#32 1#32 k.val) 16#32) (BitVec.ofNat 32 j.val) (BitVec.ofNat 32 (4 * c.val))).toNat % 128
      = 16 * k.val % 128 + 4 * c.val + j.val / 32 := by
  revert k j c; decide +kernel

/-- The shift that brings a lane's bit to the sign. -/
theorem shift_eq (j : Fin 128) : IntOp.subi 31#32 (IntOp.andi (BitVec.ofNat 32 j.val) 31#32) = BitVec.ofNat 32 (31 - j.val % 32) := by
  revert j; decide +kernel

/-- Where the tile's block of 128 words begins. -/
theorem off1_eq (k : Fin k0_t1_loop.trips) : k0_off1 k = ![0, 128 * (k.val / 8)] := by
  revert k; decide +kernel

end Cert.KernelIdeal.Step
end
-- ==== Proof.Mask.lean ====
module

public import proofs.«01_k».proof.Proof.StepValue
public import Idealize.ShloMosaic.Lib.Pipeline.Value

@[expose] public section
set_option maxRecDepth 16384
noncomputable section
namespace Cert.KernelIdeal.Step
open Idealize.ShloMosaic Idealize.ShloMosaic.TcCoe
open Cert.KernelIdeal.Gen

/-- The word of tile `k`'s mask at row `r`, column `p`: the word that holds pixel `512 k + p`, shifted so that the
    pixel's bit is the sign. -/
def maskG (w : Vec Ideal S200x512 .i32) (k : ℕ) (y : S200x512.Idx) : BitVec 32 :=
  IntOp.shli .vector (w (ix2 (y 0) ⟨(16 * k + (y 1).val / 32) % 512, Nat.mod_lt _ (by decide)⟩)) (BitVec.ofNat 32 (31 - (y 1).val % 32))

/-- What one of the four column blocks of the mask stores. -/
theorem piece_at (w : Vec Ideal S200x512 .i32) (k : Fin k0_t1_loop.trips) (c : Fin 4) (x : S200x128.Idx) (y : S200x512.Idx)
    (h0 : (y 0).val = (x 0).val) (h1 : (y 1).val = 128 * c.val + (x 1).val)
    (f : S200x128.Idx → BitVec 32)
    (hf : ∀ (r : Fin 200) (j : Fin 128), ∃ hlt, f (ix2 r j) = IntOp.shli .vector
      (View.ld w (rW k) (ix2 r ⟨(gIdx (wordBase k) (BitVec.ofNat 32 j.val) (BitVec.ofNat 32 (4 * c.val))).toNat % 128, hlt⟩))
      (IntOp.subi 31#32 (IntOp.andi (BitVec.ofNat 32 j.val) 31#32))) :
    f x = maskG w k.val y := by
  have hk : k.val < 32 := lt_of_lt_of_eq k.isLt trips_eq
  obtain ⟨r, j, rfl⟩ : ∃ (r : Fin 200) (j : Fin 128), x = ix2 r j := ⟨x 0, x 1, eq_ix2 x⟩
  obtain ⟨hlt, e⟩ := hf r j
  rw [e, shift_eq]
  have g := gIdx_eq ⟨k.val, hk⟩ j c
  have h1' : (y 1).val = 128 * c.val + j.val := h1
  have h0' : (y 0).val = r.val := h0
  unfold maskG
  refine congrArg₂ (IntOp.shli .vector) (congrArg w ?_) ?_
  · funext a
    apply Fin.ext
    fin_cases a
    · show k0_off1 k 0 + 1 * r.val = (y 0).val
      rw [off1_eq]
      show 0 + 1 * r.val = _
      omega
    · show k0_off1 k 1 + 1 * ((gIdx (wordBase k) (BitVec.ofNat 32 j.val) (BitVec.ofNat 32 (4 * c.val))).toNat % 128) = (16 * k.val + (y 1).val / 32) % 512
      rw [off1_eq]
      have g' : (gIdx (wordBase k) (BitVec.ofNat 32 j.val) (BitVec.ofNat 32 (4 * c.val))).toNat % 128 = 16 * k.val % 128 + 4 * c.val + j.val / 32 := g
      rw [g', h1']
      show 128 * (k.val / 8) + 1 * _ = _
      have := j.isLt
      have := c.isLt
      omega
  · rw [h1']; congr 2; omega

/-- Tile `k`'s mask, element by element. -/
theorem tileMask_at (w : Vec Ideal S200x512 .i32) (k : Fin k0_t1_loop.trips) (y : S200x512.Idx) :
    tileMask lanes w k y = maskG w k.val y := by
  have e : (Rect.unit (s := S200x512) ![0, 0] S200x512.size inb_S200x512_S200x512_0_0).emb y = y := by
    funext a
    apply Fin.ext
    fin_cases a
    · show 0 + 1 * (y 0).val = (y 0).val; omega
    · show 0 + 1 * (y 1).val = (y 1).val; omega
  show View.canon (maskPieces lanes w k) ((Rect.unit (s := S200x512) ![0, 0] S200x512.size inb_S200x512_S200x512_0_0).emb y) = _
  rw [e]
  refine View.canon_apply_of_pieces (maskG w k.val) _ ?_ y (maskPieces_cover lanes w k y)
  intro p hp x
  unfold maskPieces at hp
  simp only [List.mem_cons, List.not_mem_nil, or_false] at hp
  rcases hp with rfl | rfl | rfl | rfl
  · refine piece_at w k 3 x _ (by show 0 + 1 * (x 0).val = _; omega) (by show 384 + 1 * (x 1).val = _; show _ = 128 * 3 + (x 1).val; omega) _ fun r j => ?_
    refine ⟨Nat.mod_lt _ (by decide), ?_⟩
    pointwise [k0_pay8, k0_pay7, k0_pay108, lanes]
    rfl
  · refine piece_at w k 2 x _ (by show 0 + 1 * (x 0).val = _; omega) (by show 256 + 1 * (x 1).val = _; show _ = 128 * 2 + (x 1).val; omega) _ fun r j => ?_
    refine ⟨Nat.mod_lt _ (by decide), ?_⟩
    pointwise [k0_pay6, k0_pay108, lanes]
    rfl
  · refine piece_at w k 1 x _ (by show 0 + 1 * (x 0).val = _; omega) (by show 128 + 1 * (x 1).val = _; show _ = 128 * 1 + (x 1).val; omega) _ fun r j => ?_
    refine ⟨Nat.mod_lt _ (by decide), ?_⟩
    pointwise [k0_pay5, k0_pay108, lanes]
    rfl
  · refine piece_at w k 0 x _ (by show 0 + 1 * (x 0).val = _; omega) (by show 0 + 1 * (x 1).val = _; show _ = 128 * 0 + (x 1).val; omega) _ fun r j => ?_
    refine ⟨Nat.mod_lt _ (by decide), ?_⟩
    pointwise [k0_pay4, k0_pay3, k0_pay108, lanes]
    rfl

/-- A mask element is negative exactly when its pixel is admitted. -/
theorem mask_neg (x6 : Vec Ideal S1x200x512 .i32) (k : Fin k0_t1_loop.trips) (r : Fin 200) (p : Fin 512) :
    IntOp.cmpi .slt (tileMask lanes (wordsv x6) k (ix2 r p)) 0#32
      = BitVec.ofBool (decide (Words.Allowed (row x6 r) (512 * k.val + p.val))) := by
  have hk : k.val < 32 := lt_of_lt_of_eq k.isLt trips_eq
  have hs : p.val % 32 < 32 := Nat.mod_lt _ (by decide)
  rw [tileMask_at]
  show IntOp.cmpi .slt (IntOp.shli .vector (wordsv x6 (ix2 r ⟨(16 * k.val + p.val / 32) % 512, _⟩)) (BitVec.ofNat 32 (31 - p.val % 32))) 0#32 = _
  rw [Words.neg_shift _ hs, words_at]
  congr 1
  have e1 : (512 * k.val + p.val) / 32 % 512 = (16 * k.val + p.val / 32) % 512 := by omega
  have e2 : (512 * k.val + p.val) % 32 = p.val % 32 := by omega
  rw [Bool.eq_iff_iff, Words.word_bit _ _ hs, decide_eq_true_iff]
  unfold Words.Allowed
  simp only [e1, e2]

end Cert.KernelIdeal.Step
end
-- ==== Proof.HeadValue.lean ====
module

public import proofs.«01_k».proof.Proof.Mask

@[expose] public section
set_option maxRecDepth 16384
noncomputable section
namespace Cert.KernelIdeal.Step
open Idealize.ShloMosaic Idealize.ShloMosaic.TcCoe
open Cert.KernelIdeal.Gen

/-- Row `32 h + x` of a block of keys, values or queries. -/
def hrow (h : Fin 8) (x : Fin 32) : Fin 256 := ⟨32 * h.val + x.val, by omega⟩

/-- Head `h`'s query `r` is column `r` of the block's rows for the head. -/
theorem qv_at (x3 : Vec Ideal S1x256x200 .bf16) (h : Fin 8) (r : Fin 200) (x : Fin 32) :
    qv x3 h (ix3 0 r x) = x3 (ix3 0 (hrow h x) r) := by
  fin_cases h
  · show k0_pay95 x3 (ix3 0 r x) = _
    pointwise [k0_pay95, k0_pay94]
    refine congrArg x3 (congrArg (fun z => ix3 0 z r) (Fin.ext ?_))
    simp [hrow]
  · show k0_pay96 x3 (ix3 0 r x) = _
    pointwise [k0_pay96, k0_pay94]
    refine congrArg x3 (congrArg (fun z => ix3 0 z r) (Fin.ext ?_))
    simp [hrow]
  · show k0_pay97 x3 (ix3 0 r x) = _
    pointwise [k0_pay97, k0_pay94]
    refine congrArg x3 (congrArg (fun z => ix3 0 z r) (Fin.ext ?_))
    simp [hrow]
  · show k0_pay98 x3 (ix3 0 r x) = _
    pointwise [k0_pay98, k0_pay94]
    refine congrArg x3 (congrArg (fun z => ix3 0 z r) (Fin.ext ?_))
    simp [hrow]
  · show k0_pay99 x3 (ix3 0 r x) = _
    pointwise [k0_pay99, k0_pay94]
    refine congrArg x3 (congrArg (fun z => ix3 0 z r) (Fin.ext ?_))
    simp [hrow]
  · show k0_pay101 (k0_pay100 x3) (ix3 0 r x) = _
    pointwise [k0_pay101, k0_pay100, k0_pay94]
    refine congrArg x3 (congrArg (fun z => ix3 0 z r) (Fin.ext ?_))
    simp [hrow]
  · show k0_pay102 (k0_pay94 x3) (ix3 0 r x) = _
    pointwise [k0_pay102, k0_pay94]
    refine congrArg x3 (congrArg (fun z => ix3 0 z r) (Fin.ext ?_))
    simp [hrow]
  · show k0_pay103 (k0_pay94 x3) (ix3 0 r x) = _
    pointwise [k0_pay103, k0_pay94]
    refine congrArg x3 (congrArg (fun z => ix3 0 z r) (Fin.ext ?_))
    simp [hrow]

/-- Pixel `p` of an image. -/
def pix (p : ℕ) : Fin 16384 := ⟨p % 16384, Nat.mod_lt _ (by decide)⟩

/-- Head `h`'s rows of tile `k` of a block of keys or values. -/
def tileK (X : Vec Ideal S1x256x16384 .fp8e4m3) (k : Fin k0_t1_loop.trips) (h : Fin 8) : Vec Ideal S1x32x512 .fp8e4m3 := View.ld X (rK k h)

/-- Head `h`'s scale at a grid point. -/
def scaleK (X : Vec Ideal S14x8 .f32) (i : grid0.Coords) (h : Fin 8) : Elt Ideal .f32 :=
  View.ld X (rS i h) (Shape.Idx.first (show 0 < S1x1.numel by decide))

/-- Head `h`'s masked scores in tile `k`. -/
def tileScores (i : grid0.Coords) (x1 : Vec Ideal S14x8 .f32) (x3 : Vec Ideal S1x256x200 .bf16) (x4 : Vec Ideal S1x256x16384 .fp8e4m3)
    (x6 : Vec Ideal S1x200x512 .i32) (h : Fin 8) (k : Fin k0_t1_loop.trips) : FVec Ideal S200x512 .f32 :=
  scores (tileK x4 k h) (qv x3 h) (scaleK x1 i h) (tileMask lanes (wordsv x6) k)

/-- Tile `k`'s pixel `p` is pixel `512 k + p` of the block. -/
theorem ldK_at (X : Vec Ideal S1x256x16384 .fp8e4m3) (k : Fin k0_t1_loop.trips) (h : Fin 8) (x : Fin 32) (p : Fin 512) :
    tileK X k h (ix3 0 x p) = X (ix3 0 (hrow h x) (pix (512 * k.val + p.val))) := by
  have hk : k.val < 32 := lt_of_lt_of_eq k.isLt trips_eq
  refine congrArg X (funext fun a => Fin.ext ?_)
  fin_cases a
  · show offK k h 0 + 1 * 0 = 0
    rw [offK_eq]; rfl
  · show offK k h 1 + 1 * x.val = 32 * h.val + x.val
    rw [offK_eq]
    show 32 * h.val + 1 * x.val = _
    omega
  · show offK k h 2 + 1 * p.val = (512 * k.val + p.val) % 16384
    rw [offK_eq]
    show 512 * k.val + 1 * p.val = _
    omega

/-- There are 14 grid points. -/
theorem coord_lt (i : grid0.Coords) : (i 0).val < 14 := (i 0).isLt

/-- Head `h`'s key scale is the image's. -/
theorem ldS_at (X : Vec Ideal S14x8 .f32) (i : grid0.Coords) (h : Fin 8) :
    scaleK X i h = X (ix2 ⟨(i 0).val, coord_lt i⟩ h) := by
  refine congrArg X (funext fun a => Fin.ext ?_)
  fin_cases a
  · show offS i h 0 + 1 * 0 = (i 0).val
    rw [offS_eq]; rfl
  · show offS i h 1 + 1 * 0 = h.val
    rw [offS_eq]; rfl

/-- Head `h`'s value scale is the image's. -/
theorem ldV_at (X : Vec Ideal S14x8 .f32) (i : grid0.Coords) (h : Fin 8) :
    View.ld X (rV i h) (Shape.Idx.first (show 0 < S1x1.numel by decide)) = X (ix2 ⟨(i 0).val, coord_lt i⟩ h) := by
  refine congrArg X (funext fun a => Fin.ext ?_)
  fin_cases a
  · show offV i h 0 + 1 * 0 = (i 0).val
    rw [offV_eq]; rfl
  · show offV i h 1 + 1 * 0 = h.val
    rw [offV_eq]; rfl

variable (i : grid0.Coords) (x1 x2 : Vec Ideal S14x8 .f32) (x3 : Vec Ideal S1x256x200 .bf16)
  (x4 x5 : Vec Ideal S1x256x16384 .fp8e4m3) (x6 : Vec Ideal S1x200x512 .i32) (h : Fin 8) (r : Fin 200)

/-- The score of a pixel for head `h` and query `r`, in base two. -/
def score (p : ℕ) : EReal :=
  (∑ x : Fin 32, x3 (ix3 0 (hrow h x) r) * x4 (ix3 0 (hrow h x) (pix p)))
    * ((x1 (ix2 ⟨(i 0).val, coord_lt i⟩ h) : EReal) * (((Real.log 2)⁻¹ : ℝ) : EReal))

/-- Component `d` of a pixel's value for head `h`. -/
def value (d : Fin 32) (p : ℕ) : EReal := x5 (ix3 0 (hrow h d) (pix p))

/-- The running maximum starts at a real number. -/
theorem NEG_ne : NEG ≠ ⊥ := by
  obtain ⟨x, hx⟩ := Consts.neg_real
  unfold NEG
  rw [hx]
  exact EReal.coe_ne_bot x

/-- After `k` tiles the running values of head `h` at query `r` are the maximum, the sum of the weights and the weighted
    values of the first `512 k` pixels, the same in every lane. -/
theorem hstate_inv (k : ℕ) (hk : k ≤ k0_t1_loop.trips) : ∃ M L : EReal,
    (∀ j, (hstate i x1 x3 x4 x5 x6 h k).1 (ix3 0 r j) = M) ∧ (∀ j, (hstate i x1 x3 x4 x5 x6 h k).2.1 (ix3 0 r j) = L)
    ∧ ∀ d, Softmax.Inv NEG (Words.Allowed (row x6 r)) (score i x1 x3 x4 h r) (value x5 h d) (512 * k) M L
        ((hstate i x1 x3 x4 x5 x6 h k).2.2 (ix3 0 r d)) := by
  induction k with
  | zero =>
    refine ⟨NEG, 0, fun j => ?_, fun j => ?_, fun d => ?_⟩
    · show k0_pay105 (F := Ideal) ((rM h).emb (ix3 0 r j)) = NEG
      unfold k0_pay105
      rw [shapeCast_self]
      rfl
    · show k0_pay106 (F := Ideal) (Scalar.ofBits .f32 0x00000000#32) ((rM h).emb (ix3 0 r j)) = 0
      unfold k0_pay106
      rw [shapeCast_self]
      exact Ideal.ofBits_zero_f32
    · have e : (hstate i x1 x3 x4 x5 x6 h 0).2.2 (ix3 0 r d) = 0 := by
        show k0_pay107 (F := Ideal) ((rA h).emb (ix3 0 r d)) = 0
        unfold k0_pay107
        rw [shapeCast_self]
        exact Ideal.ofBits_zero_f32
      rw [e]
      exact Softmax.Inv.init
  | succ k ih =>
    obtain ⟨M, L, hM, hL, hI⟩ := ih (by omega)
    have hk' : k < k0_t1_loop.trips := by omega
    have hP := mask_neg x6 ⟨k, hk'⟩ r
    have hs : ∀ p : Fin 512, tileScores i x1 x3 x4 x6 h ⟨k, hk'⟩ (ix2 r p)
        = if Words.Allowed (row x6 r) (512 * k + p.val) then score i x1 x3 x4 h r (512 * k + p.val) else NEG := fun p => by
      unfold tileScores
      rw [scores_at hP, ldS_at]
      simp only [qv_at, ldK_at]
      rfl
    have hst_eq : hstate i x1 x3 x4 x5 x6 h (k + 1) =
        (newM (tileScores i x1 x3 x4 x6 h ⟨k, hk'⟩) (hstate i x1 x3 x4 x5 x6 h k).1,
         newL (tileScores i x1 x3 x4 x6 h ⟨k, hk'⟩) (tileMask lanes (wordsv x6) ⟨k, hk'⟩) (hstate i x1 x3 x4 x5 x6 h k).1 (hstate i x1 x3 x4 x5 x6 h k).2.1,
         newA (tileScores i x1 x3 x4 x6 h ⟨k, hk'⟩) (tileMask lanes (wordsv x6) ⟨k, hk'⟩) (tileK x5 ⟨k, hk'⟩ h) (hstate i x1 x3 x4 x5 x6 h k).1 (hstate i x1 x3 x4 x5 x6 h k).2.2) :=
      dif_pos hk'
    rw [hst_eq]
    generalize hstate i x1 x3 x4 x5 x6 h k = st at hM hL hI
    generalize tileScores i x1 x3 x4 x6 h ⟨k, hk'⟩ = sc at hs
    have hmax : rowMax sc r M = max M ((Finset.univ : Finset (Fin 512)).fold max ⊥ fun p =>
        if Words.Allowed (row x6 r) (512 * k + p.val) then score i x1 x3 x4 h r (512 * k + p.val) else NEG) := by
      unfold rowMax
      simp only [hs]
    have hw : ∀ p : Fin 512, Softmax.w (Words.Allowed (row x6 r) (512 * k + p.val)) (sc (ix2 r p)) (rowMax sc r M)
        = Softmax.w (Words.Allowed (row x6 r) (512 * k + p.val)) (score i x1 x3 x4 h r (512 * k + p.val)) (rowMax sc r M) := fun p => by
      rw [hs]; unfold Softmax.w; split_ifs <;> rfl
    refine ⟨rowMax sc r M, L * Ideal.exp2 (M - rowMax sc r M) + ∑ p : Fin 512, Softmax.w (Words.Allowed (row x6 r) (512 * k + p.val)) (score i x1 x3 x4 h r (512 * k + p.val)) (rowMax sc r M),
      fun j => ?_, fun j => ?_, fun d => ?_⟩
    · show newM sc st.1 (ix3 0 r j) = _
      rw [newM_at, hM]
    · show newL sc _ st.1 st.2.1 (ix3 0 r j) = _
      rw [newL_at hP st.2.1 j (by rw [hM, hM]), hM, hL]
      simp only [hw]
    · show Softmax.Inv _ _ _ _ _ _ _ (newA sc _ _ st.1 st.2.2 (ix3 0 r d))
      rw [newA_at hP _ _ d hM]
      simp only [hw, ldK_at]
      exact (hI d).step NEG_ne 512 hmax

/-- The first 32 of the 128 lanes. -/
theorem low32_at (l : Vec Ideal S1x200x128 .f32) (d : Fin 32) : low32 l (ix3 0 r d) = l (ix3 0 r ⟨d.val, by omega⟩) :=
  congrArg l (funext fun a => by fin_cases a <;> rfl)

/-- One head's result at query `r`, component `d`: the softmax average of the admitted pixels' values times the value
    scale. `M` is the largest admitted score and `s'` the scores in the natural base. -/
theorem outP_at (d : Fin 32) (s' : ℕ → EReal) (hs : ∀ p < 16384, score i x1 x3 x4 h r p = s' p * (((Real.log 2)⁻¹ : ℝ) : EReal)) {M : EReal}
    (hM : ∀ p < 16384, Words.Allowed (row x6 r) p → s' p ≤ M)
    (hM' : ∀ x, (∀ p < 16384, Words.Allowed (row x6 r) p → s' p ≤ x) → M ≤ x) :
    outP i x1 x2 x3 x4 x5 x6 h (ix3 0 r d) =
      Ideal.div (∑ p ∈ Finset.range 16384, (if Words.Allowed (row x6 r) p then Ideal.exp (s' p - M) else 0) * value x5 h d p)
        (∑ p ∈ Finset.range 16384, if Words.Allowed (row x6 r) p then Ideal.exp (s' p - M) else 0)
      * x2 (ix2 ⟨(i 0).val, coord_lt i⟩ h) := by
  obtain ⟨Mk, L, hMk, hL, hI⟩ := hstate_inv i x1 x3 x4 x5 x6 h r k0_t1_loop.trips le_rfl
  have e : 512 * k0_t1_loop.trips = 16384 := by rw [trips_eq]
  rw [e] at hI
  obtain ⟨Nr, hN⟩ := Consts.neg_real
  unfold outP
  rw [outH_eq, out_at, ldV_at]
  refine congrArg (· * x2 (ix2 ⟨(i 0).val, coord_lt i⟩ h)) ?_
  rw [low32_at, hL]
  exact (hI d).quot rfl (Nr := Nr) hN hs hM hM'

end Cert.KernelIdeal.Step
end
-- ==== Proof.Attn.lean ====
module

public import proofs.«01_k».proof.Proof.Math
public import proofs.«01_k».proof.Proof.Words
public import proofs.«01_k».proof.Proof.Consts
public import Idealize.ShloMosaic.Lib.Pointwise

@[expose] public section
set_option maxRecDepth 16384
noncomputable section
namespace Cert.Attn
open Idealize.ShloMosaic
open Cert.Words

variable (q : Fin 14 → Fin 200 → Fin 8 → Fin 32 → EReal) (kc vc : Fin 14 → Fin 16384 → Fin 8 → Fin 32 → EReal)
  (ks vs : Fin 14 → Fin 8 → EReal) (mask : Fin 14 → Fin 200 → Fin 512 → BitVec 32)
  (b : Fin 14) (h : Fin 8) (r : Fin 200) (d : Fin 32)

/-- The scaled score of query `r` against pixel `p` of image `b`, for head `h`. -/
def score (p : Fin 16384) : EReal := (∑ x : Fin 32, q b r h x * kc b p h x) * (ks b h * Ideal.ofBits .f32 0x3E3504F3#32)

/-- The score where the query may look at the pixel, and minus infinity elsewhere. -/
def masked (p : Fin 16384) : EReal := if Allowed (mask b r) p.val then score q kc ks b h r p else ⊥

/-- The largest masked score of a query. -/
def top : EReal := Finset.fold max ⊥ (masked q kc ks mask b h r) Finset.univ

/-- A pixel's unnormalised weight. -/
def weight (p : Fin 16384) : EReal := Ideal.exp (masked q kc ks mask b h r p - top q kc ks mask b h r)

/-- Masked attention over 16384 pixels: the values averaged with the softmax weights, and scaled. -/
def attn : EReal := Ideal.div (∑ p : Fin 16384, weight q kc ks mask b h r p * vc b p h d) (∑ p : Fin 16384, weight q kc ks mask b h r p) * vs b h

/-- A masked-out pixel has weight zero. -/
theorem weight_eq (p : Fin 16384) : weight q kc ks mask b h r p
    = if Allowed (mask b r) p.val then Ideal.exp (score q kc ks b h r p - top q kc ks mask b h r) else 0 := by
  unfold weight masked
  split
  · rfl
  · rw [EReal.bot_sub]; rfl

/-- No masked score is above the largest one. -/
theorem le_top (p : Fin 16384) : masked q kc ks mask b h r p ≤ top q kc ks mask b h r :=
  (Finset.le_fold_max _).2 (Or.inr ⟨p, Finset.mem_univ p, le_rfl⟩)

/-- The largest masked score is below every upper bound. -/
theorem top_le (x : EReal) (hx : ∀ p, masked q kc ks mask b h r p ≤ x) : top q kc ks mask b h r ≤ x :=
  (Finset.fold_max_le _).2 ⟨bot_le, fun p _ => hx p⟩

end Cert.Attn
-- ==== Proof.KValue.lean ====
module

public import proofs.«01_k».proof.Proof.HeadValue
public import proofs.«01_k».proof.Proof.Run
public import proofs.«01_k».proof.Proof.Attn
public import Idealize.ShloMosaic.Lib.Pipeline.ValueKit

@[expose] public section
set_option maxRecDepth 16384
noncomputable section
namespace Cert.KernelIdeal.Step
open Idealize.ShloMosaic Idealize.ShloMosaic.TcCoe Idealize.SL.Sem
open Cert.KernelIdeal.Gen
variable (m : (ℓ : Loc nD τ sig) → Buf (Elt Ideal) ℓ) (c : Dev nD)

/-- Which block each window takes at a grid point: the two scales whole, every other array by its image. -/
theorem idx : ∀ t : Fin cfg0.N, win0_0.index t = ![0, 0] ∧ win0_1.index t = ![0, 0] ∧ win0_2.index t = ![(grid0.coords t 0).val, 0, 0]
    ∧ win0_3.index t = ![(grid0.coords t 0).val, 0, 0] ∧ win0_4.index t = ![(grid0.coords t 0).val, 0, 0]
    ∧ win0_5.index t = ![(grid0.coords t 0).val, 0, 0] ∧ win0_6.index t = ![(grid0.coords t 0).val, 0, 0] :=
  (by decide +kernel : ∀ t : Fin grid0.N, _)

/-- The program's arguments, as arrays: the queries. -/
abbrev qA : FVec Ideal S14x200x8x32 .bf16 := m ((c : Thread nD τ).loc main_arg0)
/-- The key codes. -/
abbrev kA : FVec Ideal S14x16384x8x32 .fp8e4m3 := m ((c : Thread nD τ).loc main_arg1)
/-- The key scales. -/
abbrev ksA : FVec Ideal S14x8 .f32 := m ((c : Thread nD τ).loc main_arg2)
/-- The value codes. -/
abbrev vA : FVec Ideal S14x16384x8x32 .fp8e4m3 := m ((c : Thread nD τ).loc main_arg3)
/-- The value scales. -/
abbrev vsA : FVec Ideal S14x8 .f32 := m ((c : Thread nD τ).loc main_arg4)
/-- The mask words. -/
abbrev maskA : Vec Ideal S14x200x512 .i32 := m ((c : Thread nD τ).loc main_arg5)

/-- The image that a grid point works on. -/
def img (t : Fin cfg0.N) : Fin 14 := ⟨(grid0.coords t 0).val, coord_lt (grid0.coords t)⟩

/-- The scale block: the key scale times the score scale. -/
theorem cs_at (t : Fin cfg0.N) (b : Fin 14) (h : Fin 8) :
    (iblk m c 0 t : Vec Ideal S14x8 .f32) (ix2 b h) = ksA m c (ix2 b h) * Ideal.ofBits .f32 0x3E3504F3#32 := by
  have e : (iblk m c 0 t : Vec Ideal S14x8 .f32) (ix2 b h) = (V m c main_v7 : Vec Ideal S14x8 .f32) (ix2 b h) := by
    blk_ext [iblk, (idx t).1]
  rw [e]
  entry_read
  pointwise

/-- The value scales' block is the whole array. -/
theorem vs_at (t : Fin cfg0.N) (b : Fin 14) (h : Fin 8) :
    (iblk m c 1 t : Vec Ideal S14x8 .f32) (ix2 b h) = vsA m c (ix2 b h) := by
  blk_ext [iblk, V, (idx t).2.1]

/-- Row `32 h + x` belongs to head `h`, -/
theorem hrow_div (h : Fin 8) (x : Fin 32) (hl : (hrow h x).val / 32 < 8) : (⟨(hrow h x).val / 32, hl⟩ : Fin 8) = h :=
  Fin.ext (by have := x.isLt; show (32 * h.val + x.val) / 32 = h.val; omega)

/-- and is its component `x`. -/
theorem hrow_mod (h : Fin 8) (x : Fin 32) (hl : (hrow h x).val % 32 < 32) : (⟨(hrow h x).val % 32, hl⟩ : Fin 32) = x :=
  Fin.ext (by have := x.isLt; show (32 * h.val + x.val) % 32 = x.val; omega)

/-- A grid point's query block is the image's queries, transposed; -/
theorem q_at (t : Fin cfg0.N) (h : Fin 8) (x : Fin 32) (r : Fin 200) :
    (iblk m c 2 t : Vec Ideal S1x256x200 .bf16) (ix3 0 (hrow h x) r) = qA m c (ix4 (img t) r h x) := by
  have e : (iblk m c 2 t : Vec Ideal S1x256x200 .bf16) (ix3 0 (hrow h x) r) = (V m c main_v1 : Vec Ideal S14x256x200 .bf16) (ix3 (img t) (hrow h x) r) := by
    blk_ext [iblk, img, (idx t).2.2.1]
  rw [e]
  entry_read
  pointwise
  exact congrArg₂ (fun a b => qA m c (ix4 (img t) r a b)) (hrow_div h x _) (hrow_mod h x _)

/-- its key block the image's key codes, transposed; -/
theorem k_at (t : Fin cfg0.N) (h : Fin 8) (x : Fin 32) (p : Fin 16384) :
    (iblk m c 3 t : Vec Ideal S1x256x16384 .fp8e4m3) (ix3 0 (hrow h x) p) = kA m c (ix4 (img t) p h x) := by
  have e : (iblk m c 3 t : Vec Ideal S1x256x16384 .fp8e4m3) (ix3 0 (hrow h x) p) = (V m c main_v3 : Vec Ideal S14x256x16384 .fp8e4m3) (ix3 (img t) (hrow h x) p) := by
    blk_ext [iblk, img, (idx t).2.2.2.1]
  rw [e]
  entry_read
  pointwise
  exact congrArg₂ (fun a b => kA m c (ix4 (img t) p a b)) (hrow_div h x _) (hrow_mod h x _)

/-- its value block the image's value codes, transposed; -/
theorem v_at (t : Fin cfg0.N) (h : Fin 8) (x : Fin 32) (p : Fin 16384) :
    (iblk m c 4 t : Vec Ideal S1x256x16384 .fp8e4m3) (ix3 0 (hrow h x) p) = vA m c (ix4 (img t) p h x) := by
  have e : (iblk m c 4 t : Vec Ideal S1x256x16384 .fp8e4m3) (ix3 0 (hrow h x) p) = (V m c main_v5 : Vec Ideal S14x256x16384 .fp8e4m3) (ix3 (img t) (hrow h x) p) := by
    blk_ext [iblk, img, (idx t).2.2.2.2.1]
  rw [e]
  entry_read
  pointwise
  exact congrArg₂ (fun a b => vA m c (ix4 (img t) p a b)) (hrow_div h x _) (hrow_mod h x _)

/-- and its mask block the image's mask words. -/
theorem mask_at (t : Fin cfg0.N) (r : Fin 200) (g : Fin 512) :
    (iblk m c 5 t : Vec Ideal S1x200x512 .i32) (ix3 0 r g) = maskA m c (ix3 (img t) r g) := by
  blk_ext [iblk, V, img, (idx t).2.2.2.2.2.1]

/-- The attention of the program's arguments, for image `b`, head `h`, query `r` and component `d`. -/
def attnA (b : Fin 14) (h : Fin 8) (r : Fin 200) (d : Fin 32) : EReal :=
  Attn.attn (fun b r h x => qA m c (ix4 b r h x)) (fun b p h x => kA m c (ix4 b p h x)) (fun b p h x => vA m c (ix4 b p h x))
    (fun b h => ksA m c (ix2 b h)) (fun b h => vsA m c (ix2 b h)) (fun b r g => maskA m c (ix3 b r g)) b h r d

/-- A pixel below 16384 is itself. -/
theorem pix_val (p : Fin 16384) : pix p.val = p := Fin.ext (Nat.mod_eq_of_lt p.isLt)

/-- A head's result at a grid point is the attention of the point's image. -/
theorem outP_eq (t : Fin cfg0.N) (h : Fin 8) (r : Fin 200) (d : Fin 32) :
    outP (grid0.coords t) (iblk m c 0 t) (iblk m c 1 t) (iblk m c 2 t) (iblk m c 3 t) (iblk m c 4 t) (iblk m c 5 t) h (ix3 0 r d)
      = attnA m c (img t) h r d := by
  set q : Fin 14 → Fin 200 → Fin 8 → Fin 32 → EReal := fun b r h x => qA m c (ix4 b r h x) with hq
  set k : Fin 14 → Fin 16384 → Fin 8 → Fin 32 → EReal := fun b p h x => kA m c (ix4 b p h x) with hk
  set ks : Fin 14 → Fin 8 → EReal := fun b h => ksA m c (ix2 b h) with hks
  set msk : Fin 14 → Fin 200 → Fin 512 → BitVec 32 := fun b r g => maskA m c (ix3 b r g) with hmsk
  have hrow : row (iblk m c 5 t) r = msk (img t) r := funext fun g => mask_at m c t r g
  have hlt : ∀ (p : ℕ) (hp : p < 16384), pix p = ⟨p, hp⟩ := fun p hp => Fin.ext (Nat.mod_eq_of_lt hp)
  have key := outP_at (grid0.coords t) (iblk m c 0 t) (iblk m c 1 t) (iblk m c 2 t) (iblk m c 3 t) (iblk m c 4 t) (iblk m c 5 t) h r d
    (fun p => Attn.score q k ks (img t) h r (pix p)) (fun p hp => by
      unfold score Attn.score
      rw [cs_at, ← mul_assoc, ← mul_assoc, ← mul_assoc]
      refine congrArg (· * _) (congrArg (· * _) (congrArg (· * _) (Finset.sum_congr rfl fun x _ => ?_)))
      rw [q_at, k_at])
    (M := Attn.top q k ks msk (img t) h r)
    (fun p hp ha => by
      refine le_trans (le_of_eq ?_) (Attn.le_top q k ks msk (img t) h r (pix p))
      rw [hrow] at ha
      unfold Attn.masked
      rw [if_pos (by rw [hlt p hp]; exact ha)])
    (fun x hx => by
      refine Attn.top_le _ _ _ _ _ _ _ _ fun p => ?_
      unfold Attn.masked
      split
      · rename_i ha
        have := hx p.val p.isLt (by rw [hrow]; exact ha)
        rwa [pix_val] at this
      · exact bot_le)
  have e1 : (∑ p ∈ Finset.range 16384, (if Words.Allowed (row (iblk m c 5 t) r) p then Ideal.exp (Attn.score q k ks (img t) h r (pix p) - Attn.top q k ks msk (img t) h r) else 0)
        * value (iblk m c 4 t) h d p) = ∑ p : Fin 16384, Attn.weight q k ks msk (img t) h r p * vA m c (ix4 (img t) p h d) := by
    rw [Finset.sum_range]
    refine Finset.sum_congr rfl fun p _ => ?_
    rw [Attn.weight_eq, pix_val, hrow]
    unfold value
    rw [v_at, pix_val]
  have e2 : (∑ p ∈ Finset.range 16384, (if Words.Allowed (row (iblk m c 5 t) r) p then Ideal.exp (Attn.score q k ks (img t) h r (pix p) - Attn.top q k ks msk (img t) h r) else 0))
      = ∑ p : Fin 16384, Attn.weight q k ks msk (img t) h r p := by
    rw [Finset.sum_range]
    refine Finset.sum_congr rfl fun p _ => ?_
    rw [Attn.weight_eq, pix_val, hrow]
  rw [key, e1, e2, vs_at]
  rfl

/-- The result array: the eight heads' attentions side by side. -/
def result : FVec Ideal S14x200x256 .bf16 := fun y =>
  attnA m c (y 0) ⟨(y 2).val / 32, by have : (y 2).val < 256 := (y 2).isLt; omega⟩ (y 1) ⟨(y 2).val % 32, Nat.mod_lt _ (by decide)⟩

/-- What the kernel's program leaves in its result array. -/
theorem final : (dats m 0 c).arrAt 6 (cfgs 0).N = result m c := by
  refine (dats m 0 c).arrAt_eq_of_covers 6 _ (by decide +kernel) fun t _ y => ?_
  blk_simp
  rw [after0_6]
  obtain ⟨r, j, rfl⟩ : ∃ (r : Fin 200) (j : Fin 256), y = ix3 0 r j := ⟨y 1, y 2, (eq_ix3 y).trans (congrArg (fun z => ix3 z (y 1) (y 2)) (Subsingleton.elim (α := Fin 1) _ _))⟩
  have e : (win0_6.blk t).view.emb (ix3 0 r j) = ix3 (img t) r j := by
    blk_ext [img, (idx t).2.2.2.2.2.2]
  rw [e]
  have e' : inCol (ix3 0 r j) = ix3 0 r (⟨j.val % 32, Nat.mod_lt _ (by decide)⟩ : Fin 32) := by
    funext a; fin_cases a <;> rfl
  show outP _ _ _ _ _ _ _ _ (inCol (ix3 0 r j)) = _
  rw [e', outP_eq]
  rfl

end Cert.KernelIdeal.Step
-- ==== Proof.RTail.lean ====
module

public import proofs.«01_k».proof.Proof.Gen.ReferenceIdeal.Frame
public import Idealize.ShloMosaic.PureOps.Ideal
public import Idealize.ShloMosaic.Lib.Claim
public import Idealize.ShloMosaic.Lib.StableHlo.RunRead

@[expose] public section
set_option maxRecDepth 16384
noncomputable section
namespace Cert.ReferenceIdeal.Value
open Idealize.ShloMosaic Idealize.ShloMosaic.TcCoe Idealize.SL.Sem
open Cert.ReferenceIdeal Cert.ReferenceIdeal.Gen

/-- Which pixels each query may look at: the bit of its word, or every pixel where the query's whole row of words is zero. -/
def maskR (w : Vec Ideal S14x200x512 .i32) : Vec Ideal S14x200x16384 .i1 :=
  ori (shapeCast S14x200x16384 (cmpi .ne (andi (Host.shrui
      (broadcastInDim S14x200x512x32 ![0, 1, 2, 3] bcast_S14x200x512x1_S14x200x512x32_0_1_2_3 (broadcastInDim S14x200x512x1 ![0, 1, 2] bcast_S14x200x512_S14x200x512x1_0_1_2 w))
      (broadcastInDim S14x200x512x32 ![0, 1, 2, 3] bcast_S1x1x1x32_S14x200x512x32_0_1_2_3 (broadcastInDim S1x1x1x32 ![3] bcast_S32_S1x1x1x32_3 (iotaInDim S32 32 0))))
      (broadcastInDim S14x200x512x32 ![] bcast_S_S14x200x512x32 (constantI S_ 32 1#32)))
      (broadcastInDim S14x200x512x32 ![] bcast_S_S14x200x512x32 (constantI S_ 32 0#32))) shapeCasts_S14x200x512x32_S14x200x16384)
    (broadcastInDim S14x200x16384 ![0, 1, 2] bcast_S14x200x1_S14x200x16384_0_1_2 (broadcastInDim S14x200x1 ![0, 1] bcast_S14x200_S14x200x1_0_1
      (Host.reduce IntOp.andi (cmpi .eq w (broadcastInDim S14x200x512 ![] bcast_S_S14x200x512 (constantI S_ 32 0#32))) (constantI S_ 1 1#1) reducesTo_S14x200x512_S14x200_d2 h_S_)))

/-- The scaled scores. -/
def scoreR (q : FVec Ideal S14x200x8x32 .bf16) (k : FVec Ideal S14x16384x8x32 .bf16) (ks : FVec Ideal S14x8 .f32) : FVec Ideal S14x8x200x16384 .f32 :=
  mulf (Host.dotGeneral dot_S14x200x8x32_S14x16384x8x32_S14x8x200x16384_3_3_1_1_02_02 none q k)
    (broadcastInDim S14x8x200x16384 ![0, 1, 2, 3] bcast_S14x8x1x1_S14x8x200x16384_0_1_2_3 (broadcastInDim S14x8x1x1 ![0, 1] bcast_S14x8_S14x8x1x1_0_1
      (mulf ks (broadcastInDim S14x8 ![] bcast_S_S14x8 (constant (F := Ideal) S_ .f32 0x3E3504F3#32)))))

/-- The scores, at minus infinity outside the mask. -/
def selR (w : Vec Ideal S14x200x16384 .i1) (s : FVec Ideal S14x8x200x16384 .f32) : FVec Ideal S14x8x200x16384 .f32 :=
  select (broadcastInDim S14x8x200x16384 ![0, 1, 2, 3] bcast_S14x1x200x16384_S14x8x200x16384_0_1_2_3 (broadcastInDim S14x1x200x16384 ![0, 2, 3] bcast_S14x200x16384_S14x1x200x16384_0_2_3 w))
    s (broadcastInDim S14x8x200x16384 ![] bcast_S_S14x8x200x16384 (constant (F := Ideal) S_ .f32 0xFF800000#32))

/-- The unnormalised weights. -/
def weightR (s : FVec Ideal S14x8x200x16384 .f32) : FVec Ideal S14x8x200x16384 .f32 :=
  Host.exp (subf s (broadcastInDim S14x8x200x16384 ![0, 1, 2, 3] bcast_S14x8x200x1_S14x8x200x16384_0_1_2_3 (broadcastInDim S14x8x200x1 ![0, 1, 2] bcast_S14x8x200_S14x8x200x1_0_1_2
    (Host.reduce FloatOps.maximumf s (constant S_ .f32 0xFF800000#32) reducesTo_S14x8x200x16384_S14x8x200_d3 h_S_))))

/-- The result from the weights. -/
def outR (v : FVec Ideal S14x16384x8x32 .bf16) (p : FVec Ideal S14x8x200x16384 .f32) (vs : FVec Ideal S14x8 .f32) : FVec Ideal S14x200x256 .bf16 :=
  truncf .bf16 (shapeCast S14x200x256 (mulf (Host.divf
    (transpose S14x200x8x32 [0, 3, 1, 2] (Host.dotGeneral dot_S14x16384x8x32_S14x8x200x16384_S14x8x32x200_1_3_3_2_02_01 none v (truncf .bf16 p bitsLt_bf16_f32)) transposes_S14x8x32x200_S14x200x8x32_0_3_1_2)
    (broadcastInDim S14x200x8x32 ![0, 1, 2, 3] bcast_S14x200x8x1_S14x200x8x32_0_1_2_3 (transpose S14x200x8x1 [0, 2, 1, 3] (broadcastInDim S14x8x200x1 ![0, 1, 2] bcast_S14x8x200_S14x8x200x1_0_1_2
      (Host.reduceAdd p (constant S_ .f32 0x00000000#32) reducesTo_S14x8x200x16384_S14x8x200_d3 h_S_)) transposes_S14x8x200x1_S14x200x8x1_0_2_1_3)))
    (broadcastInDim S14x200x8x32 ![0, 1, 2, 3] bcast_S14x1x8x1_S14x200x8x32_0_1_2_3 (broadcastInDim S14x1x8x1 ![0, 2] bcast_S14x8_S14x1x8x1_0_2 vs)))
    shapeCasts_S14x200x8x32_S14x200x256) bitsLt_bf16_f32

variable (V : Valuation τ sig (Elt Ideal))

/-- The first stretch of operations leaves the mask, -/
theorem read_mask : StableHlo.after (hostOps1 (F := Ideal)) V (Proc.devRef .tc main_v26)
    = broadcastInDim S14x1x200x16384 ![0, 2, 3] bcast_S14x200x16384_S14x1x200x16384_0_2_3 (maskR (V (Proc.devRef .tc main_arg5))) := by
  unfold hostOps1
  after_reads_simp
  unfold maskR
  simp only [id_eq]
  congr 1

/-- and the scores; -/
theorem read_score : StableHlo.after (hostOps1 (F := Ideal)) V (Proc.devRef .tc main_v25)
    = scoreR (V (Proc.devRef .tc main_arg0)) (V (Proc.devRef .tc main_v0_0)) (V (Proc.devRef .tc main_arg2)) := by
  unfold hostOps1
  after_reads_simp
  rfl

/-- it keeps the values and the value scale. -/
theorem read_v : StableHlo.after (hostOps1 (F := Ideal)) V (Proc.devRef .tc main_v0_1) = V (Proc.devRef .tc main_v0_1) := by
  unfold hostOps1
  after_reads_simp

/-- The value scale is kept as well. -/
theorem read_vs : StableHlo.after (hostOps1 (F := Ideal)) V (Proc.devRef .tc main_arg4) = V (Proc.devRef .tc main_arg4) := by
  unfold hostOps1
  after_reads_simp

/-- The first stretch ends with the constant minus infinity. -/
theorem read_inf : StableHlo.after (hostOps1 (F := Ideal)) V (Proc.devRef .tc main_cst_3) = constant (F := Ideal) S_ .f32 0xFF800000#32 := by
  unfold hostOps1
  after_reads_simp

/-- The second stretch selects the scores by the mask. -/
theorem read_sel : StableHlo.after (hostOps1_1 (F := Ideal)) V (Proc.devRef .tc main_v27)
    = select (broadcastInDim S14x8x200x16384 ![0, 1, 2, 3] bcast_S14x1x200x16384_S14x8x200x16384_0_1_2_3 (V (Proc.devRef .tc main_v26)))
      (V (Proc.devRef .tc main_v25)) (broadcastInDim S14x8x200x16384 ![] bcast_S_S14x8x200x16384 (V (Proc.devRef .tc main_cst_3))) := by
  unfold hostOps1_1
  after_results
  rfl

/-- The second stretch keeps the values -/
theorem read_v' : StableHlo.after (hostOps1_1 (F := Ideal)) V (Proc.devRef .tc main_v0_1) = V (Proc.devRef .tc main_v0_1) := by
  unfold hostOps1_1
  after_results

/-- and the value scale. -/
theorem read_vs' : StableHlo.after (hostOps1_1 (F := Ideal)) V (Proc.devRef .tc main_arg4) = V (Proc.devRef .tc main_arg4) := by
  unfold hostOps1_1
  after_results

/-- The third stretch leaves the result. -/
theorem read_out : StableHlo.after (hostOps1_2 (F := Ideal)) V (Proc.devRef .tc main_v45)
    = outR (V (Proc.devRef .tc main_v0_1)) (weightR (V (Proc.devRef .tc main_v27))) (V (Proc.devRef .tc main_arg4)) := by
  unfold hostOps1_2
  after_reads_simp
  rfl

/-- What the operations after the decoding leave in the result array. -/
theorem read_tail : StableHlo.after (List.flatten [hostOps1 (F := Ideal), hostOps1_1, hostOps1_2]) V (Proc.devRef .tc main_v45)
    = outR (V (Proc.devRef .tc main_v0_1)) (weightR (selR (maskR (V (Proc.devRef .tc main_arg5)))
        (scoreR (V (Proc.devRef .tc main_arg0)) (V (Proc.devRef .tc main_v0_0)) (V (Proc.devRef .tc main_arg2))))) (V (Proc.devRef .tc main_arg4)) := by
  rw [List.flatten_cons, List.flatten_cons, List.flatten_cons, List.flatten_nil, List.append_nil, StableHlo.after_append, StableHlo.after_append,
    read_out, read_sel, read_v', read_vs', read_v, read_vs, read_mask, read_score, read_inf]
  rfl

end Cert.ReferenceIdeal.Value
-- ==== Proof.RValue.lean ====
module

public import proofs.«01_k».proof.Proof.RTail
public import proofs.«01_k».proof.Proof.Attn
public import Idealize.ShloMosaic.Lib.Pipeline.ValueKit

@[expose] public section
set_option maxRecDepth 16384
noncomputable section
namespace Cert.ReferenceIdeal.Value
open Idealize.ShloMosaic Idealize.ShloMosaic.TcCoe Idealize.SL.Sem
open Cert.ReferenceIdeal Cert.ReferenceIdeal.Gen

/-- The scores, element by element. -/
theorem scoreR_at (q : FVec Ideal S14x200x8x32 .bf16) (k : FVec Ideal S14x16384x8x32 .bf16) (ks : FVec Ideal S14x8 .f32)
    (b : Fin 14) (h : Fin 8) (r : Fin 200) (p : Fin 16384) :
    scoreR q k ks (ix4 b h r p) = (∑ x : Fin 32, q (ix4 b r h x) * k (ix4 b p h x)) * (ks (ix2 b h) * Ideal.ofBits .f32 0x3E3504F3#32) := by
  pointwise [scoreR]

/-- The weights, element by element. -/
theorem weightR_at (s : FVec Ideal S14x8x200x16384 .f32) (b : Fin 14) (h : Fin 8) (r : Fin 200) (p : Fin 16384) :
    weightR s (ix4 b h r p) = Ideal.exp (s (ix4 b h r p) - Finset.fold max ⊥ (fun p' : Fin 16384 => s (ix4 b h r p')) Finset.univ) := by
  rw [← Consts.ofBits_neg_inf]
  pointwise [weightR]

/-- The masked scores, element by element. -/
theorem selR_at (w : Vec Ideal S14x200x16384 .i1) (s : FVec Ideal S14x8x200x16384 .f32) (b : Fin 14) (h : Fin 8) (r : Fin 200) (p : Fin 16384) :
    selR w s (ix4 b h r p) = Scalar.select (w (ix3 b r p)) (s (ix4 b h r p)) (⊥ : EReal) := by
  rw [← Consts.ofBits_neg_inf]
  pointwise [selR]

/-- The result, element by element. -/
theorem outR_at (v : FVec Ideal S14x16384x8x32 .bf16) (p : FVec Ideal S14x8x200x16384 .f32) (vs : FVec Ideal S14x8 .f32)
    (b : Fin 14) (r : Fin 200) (j : Fin 256) :
    outR v p vs (ix3 b r j) = Ideal.div (∑ x : Fin 16384, v (ix4 b x ⟨j.val / 32, by omega⟩ ⟨j.val % 32, Nat.mod_lt _ (by decide)⟩) * p (ix4 b ⟨j.val / 32, by omega⟩ r x))
      (∑ x : Fin 16384, p (ix4 b ⟨j.val / 32, by omega⟩ r x)) * vs (ix2 b ⟨j.val / 32, by omega⟩) := by
  pointwise [outR]

/-- A conjunction of single bits is set where every bit is. -/
theorem fold_andi {ι : Type} [DecidableEq ι] (f : ι → Prop) [DecidablePred f] (s : Finset ι) :
    Finset.fold IntOp.andi (1#1) (fun x => BitVec.ofBool (decide (f x))) s = BitVec.ofBool (decide (∀ x ∈ s, f x)) := by
  induction s using Finset.induction_on with
  | empty => simp
  | insert a s ha ih =>
    rw [Finset.fold_insert ha, ih]
    have hd : decide (∀ x ∈ insert a s, f x) = (decide (f a) && decide (∀ x ∈ s, f x)) := by
      rw [← Bool.decide_and]; exact decide_eq_decide.2 (Finset.forall_mem_insert ..)
    rw [hd]
    cases decide (f a) <;> cases decide (∀ x ∈ s, f x) <;> rfl

/-- The disjunction of two bits. -/
theorem ori_bits {A P : Prop} {_ : Decidable A} {_ : Decidable P} (x : Bool) (h : P ↔ A ∨ x = true) :
    IntOp.ori (BitVec.ofBool x) (BitVec.ofBool (decide A)) = BitVec.ofBool (decide P) := by
  have hd : decide P = (decide A || x) := by
    by_cases hA : A <;> cases x <;> simp [h, hA]
  rw [hd]
  cases x <;> cases decide A <;> rfl

/-- The mask is set at the pixels a query may look at. -/
theorem maskR_at (w : Vec Ideal S14x200x512 .i32) (b : Fin 14) (r : Fin 200) (p : Fin 16384) :
    maskR w (ix3 b r p) = BitVec.ofBool (decide (Words.Allowed (fun g => w (ix3 b r g)) p.val)) := by
  pointwise [maskR]
  have e : (fun x : Fin 512 => IntOp.cmpi CmpIPredicate.eq (w (ix3 b r x)) 0#32)
      = fun x => BitVec.ofBool (decide (w (ix3 b r x) = 0#32)) := funext fun x => by
    exact congrArg BitVec.ofBool (beq_eq_decide ..)
  have hm : p.val / 32 % 512 = p.val / 32 := Nat.mod_eq_of_lt (by omega)
  refine (congrArg₂ IntOp.ori (Words.low_shift _ (Nat.mod_lt _ (by decide))) ((congrArg (fun g => Finset.fold IntOp.andi (1#1) g Finset.univ) e).trans (fold_andi ..))).trans ?_
  have hd : Words.Allowed (fun g => w (ix3 b r g)) p.val ↔ ((∀ x, w (ix3 b r x) = 0#32) ∨ (w (ix3 b r ⟨p.val / 32, by omega⟩)).getLsbD (p.val % 32) = true) := by
    unfold Words.Allowed
    refine or_congr Iff.rfl ?_
    have : (⟨p.val / 32 % 512, Nat.mod_lt _ (by decide)⟩ : Fin 512) = ⟨p.val / 32, by omega⟩ := Fin.ext hm
    rw [this]
  exact ori_bits _ (hd.trans (or_congr ⟨fun h x _ => h x, fun h x => h x (Finset.mem_univ x)⟩ Iff.rfl))

variable (m : (ℓ : Loc nD τ sig) → Buf (Elt Ideal) ℓ) (c : Dev nD)

/-- Each window of the decoding takes its whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] :=
  (by decide +kernel : ∀ t : Fin grid0.N, _)

/-- The decoded keys are the key codes' numbers, -/
theorem k_final : (dats m 0 c).arrAt 2 (cfgs 0).N = (m ((c : Thread nD τ).loc main_arg1) : FVec Ideal S14x16384x8x32 .fp8e4m3) := by
  refine (dats m 0 c).arrAt_eq_of_covers 2 _ (by decide +kernel) fun t _ y => ?_
  blk_simp
  rw [after0_2]
  frame_out
  obtain ⟨a, p, h, x, rfl⟩ : ∃ (a : Fin 14) (p : Fin 16384) (h : Fin 8) (x : Fin 32), y = ix4 a p h x := ⟨y 0, y 1, y 2, y 3, eq_ix4 y⟩
  pointwise [k0_pay1]
  blk_ext [iblk, V, V0, idx t]

/-- and the decoded values the value codes' numbers. -/
theorem v_final : (dats m 0 c).arrAt 3 (cfgs 0).N = (m ((c : Thread nD τ).loc main_arg3) : FVec Ideal S14x16384x8x32 .fp8e4m3) := by
  refine (dats m 0 c).arrAt_eq_of_covers 3 _ (by decide +kernel) fun t _ y => ?_
  blk_simp
  rw [after0_3]
  frame_out
  obtain ⟨a, p, h, x, rfl⟩ : ∃ (a : Fin 14) (p : Fin 16384) (h : Fin 8) (x : Fin 32), y = ix4 a p h x := ⟨y 0, y 1, y 2, y 3, eq_ix4 y⟩
  pointwise [k0_pay2]
  blk_ext [iblk, V, V0, idx t]

/-- What the reference leaves in its result array. -/
theorem result_eq : Pipeline.afterTail₀ cfgs (dats m) 0 (V0 m) [hostOps1, hostOps1_1, hostOps1_2] c main_v45
    = outR (m ((c : Thread nD τ).loc main_arg3)) (weightR (selR (maskR (m ((c : Thread nD τ).loc main_arg5)))
        (scoreR (m ((c : Thread nD τ).loc main_arg0)) (m ((c : Thread nD τ).loc main_arg1)) (m ((c : Thread nD τ).loc main_arg2))))) (m ((c : Thread nD τ).loc main_arg4)) := by
  unfold Pipeline.afterTail₀
  rw [read_tail]
  refine congr (congr (congrArg outR ?_) (congrArg weightR (congr (congrArg selR (congrArg maskR ?_)) (congr (congr (congrArg scoreR ?_) ?_) ?_)))) ?_
  · exact (Pipeline.withArrays_arr spec0 launch0.win.arr_inj c (V0 m c) _ 3).trans (v_final m c)
  · exact (Pipeline.withArrays_of_ne _ c (V0 m c) _ main_arg5 (by exact (by decide : ∀ w, Pipeline.arrRef spec0 w ≠ main_arg5))).trans (V_main_arg5 m c)
  · exact (Pipeline.withArrays_of_ne _ c (V0 m c) _ main_arg0 (by exact (by decide : ∀ w, Pipeline.arrRef spec0 w ≠ main_arg0))).trans (V_main_arg0 m c)
  · exact (Pipeline.withArrays_arr spec0 launch0.win.arr_inj c (V0 m c) _ 2).trans (k_final m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg4 (by exact (by decide : ∀ w, Pipeline.arrRef spec0 w ≠ main_arg4))).trans (V_main_arg4 m c)

/-- The reference's result at an index is the attention of its arguments. -/
theorem out_attn (q : FVec Ideal S14x200x8x32 .bf16) (k v : FVec Ideal S14x16384x8x32 .bf16) (ks vs : FVec Ideal S14x8 .f32)
    (w : Vec Ideal S14x200x512 .i32) (b : Fin 14) (r : Fin 200) (j : Fin 256) :
    outR v (weightR (selR (maskR w) (scoreR q k ks))) vs (ix3 b r j)
      = Attn.attn (fun b r h x => q (ix4 b r h x)) (fun b p h x => k (ix4 b p h x)) (fun b p h x => v (ix4 b p h x))
          (fun b h => ks (ix2 b h)) (fun b h => vs (ix2 b h)) (fun b r g => w (ix3 b r g)) b ⟨j.val / 32, by omega⟩ r ⟨j.val % 32, Nat.mod_lt _ (by decide)⟩ := by
  have hs : ∀ (h : Fin 8) (p : Fin 16384), selR (maskR w) (scoreR q k ks) (ix4 b h r p)
      = Attn.masked (fun b r h x => q (ix4 b r h x)) (fun b p h x => k (ix4 b p h x)) (fun b h => ks (ix2 b h)) (fun b r g => w (ix3 b r g)) b h r p := fun h p => by
    rw [selR_at, maskR_at, scoreR_at]
    unfold Attn.masked Attn.score
    by_cases ha : Words.Allowed (fun g => w (ix3 b r g)) p.val
    · rw [decide_eq_true ha, if_pos ha]; rfl
    · rw [decide_eq_false ha, if_neg ha]; rfl
  have hw : ∀ (h : Fin 8) (p : Fin 16384), weightR (selR (maskR w) (scoreR q k ks)) (ix4 b h r p)
      = Attn.weight (fun b r h x => q (ix4 b r h x)) (fun b p h x => k (ix4 b p h x)) (fun b h => ks (ix2 b h)) (fun b r g => w (ix3 b r g)) b h r p := fun h p => by
    rw [weightR_at]
    unfold Attn.weight Attn.top
    rw [hs, funext (hs h)]
  rw [outR_at]
  unfold Attn.attn
  simp only [mul_comm (v _), hw]

end Cert.ReferenceIdeal.Value
-- ==== Proof.Algebra.lean ====
module

public import proofs.«01_k».proof.Proof.KValue
public import proofs.«01_k».proof.Proof.RValue
public import proofs.«01_k».proof.Defs

@[expose] public section
set_option maxRecDepth 16384
noncomputable section
namespace Cert.Algebra
open Idealize.ShloMosaic Idealize.ShloMosaic.TcCoe Idealize.SL.Sem

/-- The reference's result, written over the kernel's arguments, is the kernel's result: both are the masked attention of the arguments. -/
theorem result_eq (m : (ℓ : Loc Cert.KernelIdeal.nD Cert.KernelIdeal.τ Cert.KernelIdeal.sig) → Buf (Elt Ideal) ℓ) (c : Dev Cert.KernelIdeal.nD) :
    Cert.ReferenceIdeal.Value.outR (Cert.KernelIdeal.Step.vA m c) (Cert.ReferenceIdeal.Value.weightR (Cert.ReferenceIdeal.Value.selR
        (Cert.ReferenceIdeal.Value.maskR (Cert.KernelIdeal.Step.maskA m c))
        (Cert.ReferenceIdeal.Value.scoreR (Cert.KernelIdeal.Step.qA m c) (Cert.KernelIdeal.Step.kA m c) (Cert.KernelIdeal.Step.ksA m c)))) (Cert.KernelIdeal.Step.vsA m c)
      = Cert.KernelIdeal.Step.result m c := by
  funext y
  obtain ⟨b, r, j, rfl⟩ : ∃ (b : Fin 14) (r : Fin 200) (j : Fin 256), y = ix3 b r j := ⟨y 0, y 1, y 2, eq_ix3 y⟩
  exact Cert.ReferenceIdeal.Value.out_attn _ _ _ _ _ _ b r j

/-- From memories that agree on the arguments, the kernel's program and the reference end with the same result array, and
    with their arguments unchanged. -/
theorem algebraic : Cert.algebraic_KernelIdeal_ReferenceIdeal := by
  intro m g m' g' _ hagree
  refine ⟨fun c => Cert.KernelIdeal.Step.result m c, ?_, ?_⟩
  · exact (θ_run _ _ _).mono (fun _ h c => ⟨((h.1 c).1 6).trans (Cert.KernelIdeal.Step.final m c), h.2.1 c⟩)
      (θ_run_and (Cert.KernelIdeal.Step.run_main m g) (Cert.KernelIdeal.Step.frame m g))
  · refine (θ_run _ _ _).mono (fun _ h c => ⟨?_, h.2.1 c⟩)
      (θ_run_and (Cert.ReferenceIdeal.Gen.run_main m' g') (Cert.ReferenceIdeal.Gen.frame m' g'))
    refine ((h.1 c).2 Cert.ReferenceIdeal.main_v45 (Pipeline.mem_restRefs_of Cert.ReferenceIdeal.main_v45 (by decide) (by decide))).trans
      ((Cert.ReferenceIdeal.Value.result_eq m' c).trans (Eq.trans ?_ (result_eq m c)))
    obtain ⟨h0, h1, h2, h3, h4, h5⟩ := hagree c
    rw [h0, h1, h2, h3, h4, h5]

end Cert.Algebra
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Bits.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim of the certificate: the three frames, the constant's name, and the equality of the kernel's and the reference's results. -/
theorem claim : Cert.Claim := ⟨Cert.Kernel.Gen.facts, Cert.KernelIdeal.Gen.facts, Cert.ReferenceIdeal.Gen.facts,
  fun m ρ _ => Cert.Kernel.Step.frame m ρ,
  fun m ρ _ => Cert.KernelIdeal.Step.frame m ρ,
  fun m ρ _ => Cert.ReferenceIdeal.Gen.frame m ρ,
  IdealRules.named_const.statement Cert.KernelIdeal.κ "log2e" .f32 0x3FB8AA3B#32 (((Real.log 2)⁻¹ : ℝ) : EReal) rfl,
  Cert.Algebra.algebraic⟩

end Cert.Proof

end
